-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v5) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x5120 : Shape := ⟨3, ![2, 1024, 5120]⟩
abbrev S4 : Shape := ⟨1, ![4]⟩
abbrev S4x2x1024 : Shape := ⟨3, ![4, 2, 1024]⟩
abbrev S5120 : Shape := ⟨1, ![5120]⟩
abbrev S2048x5120 : Shape := ⟨2, ![2048, 5120]⟩
abbrev S1x5120 : Shape := ⟨2, ![1, 5120]⟩
abbrev S2048x40 : Shape := ⟨2, ![2048, 40]⟩
abbrev S2x1024 : Shape := ⟨2, ![2, 1024]⟩
abbrev S128x5120 : Shape := ⟨2, ![128, 5120]⟩
abbrev S128x40 : Shape := ⟨2, ![128, 40]⟩
abbrev S128x128 : Shape := ⟨2, ![128, 128]⟩
abbrev S16x8x128 : Shape := ⟨3, ![16, 8, 128]⟩
abbrev S1x1x128 : Shape := ⟨3, ![1, 1, 128]⟩
abbrev S1x128 : Shape := ⟨2, ![1, 128]⟩
abbrev S32x128 : Shape := ⟨2, ![32, 128]⟩
abbrev S32 : Shape := ⟨1, ![32]⟩
abbrev S32x1 : Shape := ⟨2, ![32, 1]⟩
abbrev S1x8x128 : Shape := ⟨3, ![1, 8, 128]⟩
abbrev S8x128 : Shape := ⟨2, ![8, 128]⟩
abbrev S1 : Shape := ⟨1, ![1]⟩
abbrev S32x40 : Shape := ⟨2, ![32, 40]⟩
abbrev S2x1024x40 : Shape := ⟨3, ![2, 1024, 40]⟩

abbrev nBuf : Space → Nat
  | .hbm => 19
  | .vmem => 21
  | .smem => 1
  | _ => 0

abbrev bufTy : (tb : Table) → Fin (tcTables nBuf tb) → BufTy
  | .hbm, ⟨0, _⟩ => ⟨S2x1024x5120, .bf16⟩
  | .hbm, ⟨1, _⟩ => ⟨S2x1024x5120, .bf16⟩
  | .hbm, ⟨2, _⟩ => ⟨S4, .f32⟩
  | .hbm, ⟨3, _⟩ => ⟨S4x2x1024, .f32⟩
  | .hbm, ⟨4, _⟩ => ⟨S4x2x1024, .f32⟩
  | .hbm, ⟨5, _⟩ => ⟨S5120, .f32⟩
  | .hbm, ⟨6, _⟩ => ⟨S5120, .f32⟩
  | .hbm, ⟨7, _⟩ => ⟨S2048x5120, .bf16⟩
  | .hbm, ⟨8, _⟩ => ⟨S2048x5120, .bf16⟩
  | .hbm, ⟨9, _⟩ => ⟨S1x5120, .f32⟩
  | .hbm, ⟨10, _⟩ => ⟨S1x5120, .f32⟩
  | .hbm, ⟨11, _⟩ => ⟨S2048x5120, .fp8e4m3⟩
  | .hbm, ⟨12, _⟩ => ⟨S2048x40, .f32⟩
  | .hbm, ⟨13, _⟩ => ⟨S2x1024, .f32⟩
  | .hbm, ⟨14, _⟩ => ⟨S2x1024, .f32⟩
  | .hbm, ⟨15, _⟩ => ⟨S2048x5120, .bf16⟩
  | .hbm, ⟨16, _⟩ => ⟨S2x1024x5120, .fp8e4m3⟩
  | .hbm, ⟨17, _⟩ => ⟨S2x1024x40, .f32⟩
  | .hbm, ⟨18, _⟩ => ⟨S2x1024x5120, .bf16⟩
  | .local _ .vmem, ⟨0, _⟩ => ⟨S128x5120, .bf16⟩
  | .local _ .vmem, ⟨1, _⟩ => ⟨S128x5120, .bf16⟩
  | .local _ .vmem, ⟨2, _⟩ => ⟨S128x5120, .bf16⟩
  | .local _ .vmem, ⟨3, _⟩ => ⟨S128x5120, .bf16⟩
  | .local _ .vmem, ⟨4, _⟩ => ⟨S4x2x1024, .f32⟩
  | .local _ .vmem, ⟨5, _⟩ => ⟨S4x2x1024, .f32⟩
  | .local _ .vmem, ⟨6, _⟩ => ⟨S1x5120, .f32⟩
  | .local _ .vmem, ⟨7, _⟩ => ⟨S1x5120, .f32⟩
  | .local _ .vmem, ⟨8, _⟩ => ⟨S128x5120, .fp8e4m3⟩
  | .local _ .vmem, ⟨9, _⟩ => ⟨S128x5120, .fp8e4m3⟩
  | .local _ .vmem, ⟨10, _⟩ => ⟨S128x40, .f32⟩
  | .local _ .vmem, ⟨11, _⟩ => ⟨S128x40, .f32⟩
  | .local _ .vmem, ⟨12, _⟩ => ⟨S2x1024, .f32⟩
  | .local _ .vmem, ⟨13, _⟩ => ⟨S2x1024, .f32⟩
  | .local _ .vmem, ⟨14, _⟩ => ⟨S128x5120, .bf16⟩
  | .local _ .vmem, ⟨15, _⟩ => ⟨S128x5120, .bf16⟩
  | .local _ .vmem, ⟨16, _⟩ => ⟨S128x5120, .f32⟩
  | .local _ .vmem, ⟨17, _⟩ => ⟨S128x128, .f32⟩
  | .local _ .vmem, ⟨18, _⟩ => ⟨S128x128, .f32⟩
  | .local _ .vmem, ⟨19, _⟩ => ⟨S16x8x128, .f32⟩
  | .local _ .vmem, ⟨20, _⟩ => ⟨S16x8x128, .f32⟩
  | .local _ .smem, ⟨0, _⟩ => ⟨S4, .f32⟩
  | _, _ => ⟨S2x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  v104
def k0_off1 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v107 : Index := Scalar.indexCast v105
  let c0_24 : Index := 0#32
  ![v107.toNat, 0]
def k0_off2 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v118 : Index := Scalar.indexCast v105
  let c128 : Index := 128#32
  ![v118.toNat, 128]
def k0_off3 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v129 : Index := Scalar.indexCast v105
  let c256 : Index := 256#32
  ![v129.toNat, 256]
def k0_off4 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v140 : Index := Scalar.indexCast v105
  let c384 : Index := 384#32
  ![v140.toNat, 384]
def k0_off5 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v151 : Index := Scalar.indexCast v105
  let c512 : Index := 512#32
  ![v151.toNat, 512]
def k0_off6 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v162 : Index := Scalar.indexCast v105
  let c640 : Index := 640#32
  ![v162.toNat, 640]
def k0_off7 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v173 : Index := Scalar.indexCast v105
  let c768 : Index := 768#32
  ![v173.toNat, 768]
def k0_off8 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v184 : Index := Scalar.indexCast v105
  let c896 : Index := 896#32
  ![v184.toNat, 896]
def k0_off9 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v195 : Index := Scalar.indexCast v105
  let c1024 : Index := 1024#32
  ![v195.toNat, 1024]
def k0_off10 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v206 : Index := Scalar.indexCast v105
  let c1152 : Index := 1152#32
  ![v206.toNat, 1152]
def k0_off11 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v217 : Index := Scalar.indexCast v105
  let c1280 : Index := 1280#32
  ![v217.toNat, 1280]
def k0_off12 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v228 : Index := Scalar.indexCast v105
  let c1408 : Index := 1408#32
  ![v228.toNat, 1408]
def k0_off13 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v239 : Index := Scalar.indexCast v105
  let c1536 : Index := 1536#32
  ![v239.toNat, 1536]
def k0_off14 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v250 : Index := Scalar.indexCast v105
  let c1664 : Index := 1664#32
  ![v250.toNat, 1664]
def k0_off15 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v261 : Index := Scalar.indexCast v105
  let c1792 : Index := 1792#32
  ![v261.toNat, 1792]
def k0_off16 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v272 : Index := Scalar.indexCast v105
  let c1920 : Index := 1920#32
  ![v272.toNat, 1920]
def k0_off17 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v283 : Index := Scalar.indexCast v105
  let c2048 : Index := 2048#32
  ![v283.toNat, 2048]
def k0_off18 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v294 : Index := Scalar.indexCast v105
  let c2176 : Index := 2176#32
  ![v294.toNat, 2176]
def k0_off19 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v305 : Index := Scalar.indexCast v105
  let c2304 : Index := 2304#32
  ![v305.toNat, 2304]
def k0_off20 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v316 : Index := Scalar.indexCast v105
  let c2432 : Index := 2432#32
  ![v316.toNat, 2432]
def k0_off21 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v327 : Index := Scalar.indexCast v105
  let c2560 : Index := 2560#32
  ![v327.toNat, 2560]
def k0_off22 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v338 : Index := Scalar.indexCast v105
  let c2688 : Index := 2688#32
  ![v338.toNat, 2688]
def k0_off23 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v349 : Index := Scalar.indexCast v105
  let c2816 : Index := 2816#32
  ![v349.toNat, 2816]
def k0_off24 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v360 : Index := Scalar.indexCast v105
  let c2944 : Index := 2944#32
  ![v360.toNat, 2944]
def k0_off25 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v371 : Index := Scalar.indexCast v105
  let c3072 : Index := 3072#32
  ![v371.toNat, 3072]
def k0_off26 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v382 : Index := Scalar.indexCast v105
  let c3200 : Index := 3200#32
  ![v382.toNat, 3200]
def k0_off27 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v393 : Index := Scalar.indexCast v105
  let c3328 : Index := 3328#32
  ![v393.toNat, 3328]
def k0_off28 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v404 : Index := Scalar.indexCast v105
  let c3456 : Index := 3456#32
  ![v404.toNat, 3456]
def k0_off29 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v415 : Index := Scalar.indexCast v105
  let c3584 : Index := 3584#32
  ![v415.toNat, 3584]
def k0_off30 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v426 : Index := Scalar.indexCast v105
  let c3712 : Index := 3712#32
  ![v426.toNat, 3712]
def k0_off31 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v437 : Index := Scalar.indexCast v105
  let c3840 : Index := 3840#32
  ![v437.toNat, 3840]
def k0_off32 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v448 : Index := Scalar.indexCast v105
  let c3968 : Index := 3968#32
  ![v448.toNat, 3968]
def k0_off33 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v459 : Index := Scalar.indexCast v105
  let c4096 : Index := 4096#32
  ![v459.toNat, 4096]
def k0_off34 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v470 : Index := Scalar.indexCast v105
  let c4224 : Index := 4224#32
  ![v470.toNat, 4224]
def k0_off35 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v481 : Index := Scalar.indexCast v105
  let c4352 : Index := 4352#32
  ![v481.toNat, 4352]
def k0_off36 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v492 : Index := Scalar.indexCast v105
  let c4480 : Index := 4480#32
  ![v492.toNat, 4480]
def k0_off37 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v503 : Index := Scalar.indexCast v105
  let c4608 : Index := 4608#32
  ![v503.toNat, 4608]
def k0_off38 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v514 : Index := Scalar.indexCast v105
  let c4736 : Index := 4736#32
  ![v514.toNat, 4736]
def k0_off39 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v525 : Index := Scalar.indexCast v105
  let c4864 : Index := 4864#32
  ![v525.toNat, 4864]
def k0_off40 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v536 : Index := Scalar.indexCast v105
  let c4992 : Index := 4992#32
  ![v536.toNat, 4992]
def k0_off41 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c32_i32 : BitVec 32 := 32#32
  let v104 : BitVec 32 := Scalar.muli arg18 c32_i32
  let v105 : BitVec 32 := v104
  let v882 : Index := Scalar.indexCast v105
  let c0_150 : Index := 0#32
  ![v882.toNat, 0]
def k0_off42 (i : grid0.Coords) : Fin 3 → Nat :=
  let arg0 : BitVec 32 := BitVec.ofNat 32 (i 0).val
  let v6 : Index := Scalar.indexCast arg0
  let c0_4 : Index := 0#32
  let c0_5 : Index := 0#32
  ![v6.toNat, 0, 0]
@[reducible] def k0_t2_loop : Scf.Loop 32 :=
  let c0_i32_14 : BitVec 32 := 0#32
  let c4_i32_15 : BitVec 32 := 4#32
  let v99 : BitVec 32 := Scalar.addi c0_i32_14 c4_i32_15
  let c1_i32_16 : BitVec 32 := 1#32
  ⟨c0_i32_14, v99, c1_i32_16⟩
def k0_mult2 (k0_t2 : Fin k0_t2_loop.trips) : BitVec 32 :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  v104
def k0_off43 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v106 : Index := Scalar.indexCast v105
  let c0_23 : Index := 0#32
  ![v106.toNat, 0]
def k0_off44 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v110 : Index := Scalar.indexCast v105
  let c0_24 : Index := 0#32
  ![v110.toNat, 0]
def k0_off45 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v133 : Index := Scalar.indexCast v105
  let c0_31 : Index := 0#32
  ![v133.toNat, 0]
def k0_off46 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v137 : Index := Scalar.indexCast v105
  let c128 : Index := 128#32
  ![v137.toNat, 128]
def k0_off47 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v160 : Index := Scalar.indexCast v105
  let c1_38 : Index := 1#32
  ![v160.toNat, 1]
def k0_off48 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v164 : Index := Scalar.indexCast v105
  let c256 : Index := 256#32
  ![v164.toNat, 256]
def k0_off49 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v187 : Index := Scalar.indexCast v105
  let c2_45 : Index := 2#32
  ![v187.toNat, 2]
def k0_off50 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v191 : Index := Scalar.indexCast v105
  let c384 : Index := 384#32
  ![v191.toNat, 384]
def k0_off51 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v214 : Index := Scalar.indexCast v105
  let c3_52 : Index := 3#32
  ![v214.toNat, 3]
def k0_off52 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v218 : Index := Scalar.indexCast v105
  let c512 : Index := 512#32
  ![v218.toNat, 512]
def k0_off53 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v241 : Index := Scalar.indexCast v105
  let c4 : Index := 4#32
  ![v241.toNat, 4]
def k0_off54 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v245 : Index := Scalar.indexCast v105
  let c640 : Index := 640#32
  ![v245.toNat, 640]
def k0_off55 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v268 : Index := Scalar.indexCast v105
  let c5 : Index := 5#32
  ![v268.toNat, 5]
def k0_off56 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v272 : Index := Scalar.indexCast v105
  let c768 : Index := 768#32
  ![v272.toNat, 768]
def k0_off57 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v295 : Index := Scalar.indexCast v105
  let c6 : Index := 6#32
  ![v295.toNat, 6]
def k0_off58 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v299 : Index := Scalar.indexCast v105
  let c896 : Index := 896#32
  ![v299.toNat, 896]
def k0_off59 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v322 : Index := Scalar.indexCast v105
  let c7 : Index := 7#32
  ![v322.toNat, 7]
def k0_off60 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v326 : Index := Scalar.indexCast v105
  let c1024 : Index := 1024#32
  ![v326.toNat, 1024]
def k0_off61 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v349 : Index := Scalar.indexCast v105
  let c8 : Index := 8#32
  ![v349.toNat, 8]
def k0_off62 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v353 : Index := Scalar.indexCast v105
  let c1152 : Index := 1152#32
  ![v353.toNat, 1152]
def k0_off63 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v376 : Index := Scalar.indexCast v105
  let c9 : Index := 9#32
  ![v376.toNat, 9]
def k0_off64 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v380 : Index := Scalar.indexCast v105
  let c1280 : Index := 1280#32
  ![v380.toNat, 1280]
def k0_off65 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v403 : Index := Scalar.indexCast v105
  let c10 : Index := 10#32
  ![v403.toNat, 10]
def k0_off66 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v407 : Index := Scalar.indexCast v105
  let c1408 : Index := 1408#32
  ![v407.toNat, 1408]
def k0_off67 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v430 : Index := Scalar.indexCast v105
  let c11 : Index := 11#32
  ![v430.toNat, 11]
def k0_off68 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v434 : Index := Scalar.indexCast v105
  let c1536 : Index := 1536#32
  ![v434.toNat, 1536]
def k0_off69 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v457 : Index := Scalar.indexCast v105
  let c12 : Index := 12#32
  ![v457.toNat, 12]
def k0_off70 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v461 : Index := Scalar.indexCast v105
  let c1664 : Index := 1664#32
  ![v461.toNat, 1664]
def k0_off71 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v484 : Index := Scalar.indexCast v105
  let c13 : Index := 13#32
  ![v484.toNat, 13]
def k0_off72 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v488 : Index := Scalar.indexCast v105
  let c1792 : Index := 1792#32
  ![v488.toNat, 1792]
def k0_off73 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v511 : Index := Scalar.indexCast v105
  let c14 : Index := 14#32
  ![v511.toNat, 14]
def k0_off74 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v515 : Index := Scalar.indexCast v105
  let c1920 : Index := 1920#32
  ![v515.toNat, 1920]
def k0_off75 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v538 : Index := Scalar.indexCast v105
  let c15 : Index := 15#32
  ![v538.toNat, 15]
def k0_off76 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v542 : Index := Scalar.indexCast v105
  let c2048 : Index := 2048#32
  ![v542.toNat, 2048]
def k0_off77 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v565 : Index := Scalar.indexCast v105
  let c16 : Index := 16#32
  ![v565.toNat, 16]
def k0_off78 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v569 : Index := Scalar.indexCast v105
  let c2176 : Index := 2176#32
  ![v569.toNat, 2176]
def k0_off79 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v592 : Index := Scalar.indexCast v105
  let c17 : Index := 17#32
  ![v592.toNat, 17]
def k0_off80 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v596 : Index := Scalar.indexCast v105
  let c2304 : Index := 2304#32
  ![v596.toNat, 2304]
def k0_off81 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v619 : Index := Scalar.indexCast v105
  let c18 : Index := 18#32
  ![v619.toNat, 18]
def k0_off82 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v623 : Index := Scalar.indexCast v105
  let c2432 : Index := 2432#32
  ![v623.toNat, 2432]
def k0_off83 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v646 : Index := Scalar.indexCast v105
  let c19 : Index := 19#32
  ![v646.toNat, 19]
def k0_off84 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v650 : Index := Scalar.indexCast v105
  let c2560 : Index := 2560#32
  ![v650.toNat, 2560]
def k0_off85 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v673 : Index := Scalar.indexCast v105
  let c20 : Index := 20#32
  ![v673.toNat, 20]
def k0_off86 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v677 : Index := Scalar.indexCast v105
  let c2688 : Index := 2688#32
  ![v677.toNat, 2688]
def k0_off87 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v700 : Index := Scalar.indexCast v105
  let c21 : Index := 21#32
  ![v700.toNat, 21]
def k0_off88 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v704 : Index := Scalar.indexCast v105
  let c2816 : Index := 2816#32
  ![v704.toNat, 2816]
def k0_off89 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v727 : Index := Scalar.indexCast v105
  let c22 : Index := 22#32
  ![v727.toNat, 22]
def k0_off90 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v731 : Index := Scalar.indexCast v105
  let c2944 : Index := 2944#32
  ![v731.toNat, 2944]
def k0_off91 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v754 : Index := Scalar.indexCast v105
  let c23 : Index := 23#32
  ![v754.toNat, 23]
def k0_off92 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v758 : Index := Scalar.indexCast v105
  let c3072 : Index := 3072#32
  ![v758.toNat, 3072]
def k0_off93 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v781 : Index := Scalar.indexCast v105
  let c24 : Index := 24#32
  ![v781.toNat, 24]
def k0_off94 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v785 : Index := Scalar.indexCast v105
  let c3200 : Index := 3200#32
  ![v785.toNat, 3200]
def k0_off95 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v808 : Index := Scalar.indexCast v105
  let c25 : Index := 25#32
  ![v808.toNat, 25]
def k0_off96 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v812 : Index := Scalar.indexCast v105
  let c3328 : Index := 3328#32
  ![v812.toNat, 3328]
def k0_off97 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v835 : Index := Scalar.indexCast v105
  let c26 : Index := 26#32
  ![v835.toNat, 26]
def k0_off98 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v839 : Index := Scalar.indexCast v105
  let c3456 : Index := 3456#32
  ![v839.toNat, 3456]
def k0_off99 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v862 : Index := Scalar.indexCast v105
  let c27 : Index := 27#32
  ![v862.toNat, 27]
def k0_off100 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v866 : Index := Scalar.indexCast v105
  let c3584 : Index := 3584#32
  ![v866.toNat, 3584]
def k0_off101 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v889 : Index := Scalar.indexCast v105
  let c28 : Index := 28#32
  ![v889.toNat, 28]
def k0_off102 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v893 : Index := Scalar.indexCast v105
  let c3712 : Index := 3712#32
  ![v893.toNat, 3712]
def k0_off103 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v916 : Index := Scalar.indexCast v105
  let c29 : Index := 29#32
  ![v916.toNat, 29]
def k0_off104 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v920 : Index := Scalar.indexCast v105
  let c3840 : Index := 3840#32
  ![v920.toNat, 3840]
def k0_off105 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v943 : Index := Scalar.indexCast v105
  let c30 : Index := 30#32
  ![v943.toNat, 30]
def k0_off106 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v947 : Index := Scalar.indexCast v105
  let c3968 : Index := 3968#32
  ![v947.toNat, 3968]
def k0_off107 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v970 : Index := Scalar.indexCast v105
  let c31 : Index := 31#32
  ![v970.toNat, 31]
def k0_off108 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v974 : Index := Scalar.indexCast v105
  let c4096 : Index := 4096#32
  ![v974.toNat, 4096]
def k0_off109 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v997 : Index := Scalar.indexCast v105
  let c32 : Index := 32#32
  ![v997.toNat, 32]
def k0_off110 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1001 : Index := Scalar.indexCast v105
  let c4224 : Index := 4224#32
  ![v1001.toNat, 4224]
def k0_off111 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1024 : Index := Scalar.indexCast v105
  let c33 : Index := 33#32
  ![v1024.toNat, 33]
def k0_off112 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1028 : Index := Scalar.indexCast v105
  let c4352 : Index := 4352#32
  ![v1028.toNat, 4352]
def k0_off113 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1051 : Index := Scalar.indexCast v105
  let c34 : Index := 34#32
  ![v1051.toNat, 34]
def k0_off114 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1055 : Index := Scalar.indexCast v105
  let c4480 : Index := 4480#32
  ![v1055.toNat, 4480]
def k0_off115 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1078 : Index := Scalar.indexCast v105
  let c35 : Index := 35#32
  ![v1078.toNat, 35]
def k0_off116 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1082 : Index := Scalar.indexCast v105
  let c4608 : Index := 4608#32
  ![v1082.toNat, 4608]
def k0_off117 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1105 : Index := Scalar.indexCast v105
  let c36 : Index := 36#32
  ![v1105.toNat, 36]
def k0_off118 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1109 : Index := Scalar.indexCast v105
  let c4736 : Index := 4736#32
  ![v1109.toNat, 4736]
def k0_off119 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1132 : Index := Scalar.indexCast v105
  let c37 : Index := 37#32
  ![v1132.toNat, 37]
def k0_off120 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1136 : Index := Scalar.indexCast v105
  let c4864 : Index := 4864#32
  ![v1136.toNat, 4864]
def k0_off121 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1159 : Index := Scalar.indexCast v105
  let c38 : Index := 38#32
  ![v1159.toNat, 38]
def k0_off122 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1163 : Index := Scalar.indexCast v105
  let c4992 : Index := 4992#32
  ![v1163.toNat, 4992]
def k0_off123 (k0_t2 : Fin k0_t2_loop.trips) : Fin 2 → Nat :=
  let c0_i32_14 : BitVec 32 := 0#32
  let c1_i32_16 : BitVec 32 := 1#32
  let arg18 : BitVec 32 := Scf.iv c0_i32_14 c1_i32_16 k0_t2
  let c32_i32 : BitVec 32 := 32#32
  let v104 : BitVec 32 := Scalar.muli arg18 c32_i32
  let v105 : BitVec 32 := v104
  let v1186 : Index := Scalar.indexCast v105
  let c39 : Index := 39#32
  ![v1186.toNat, 39]
@[reducible] def k0_t3_loop : Scf.Loop 32 :=
  let c0_i32_18 : BitVec 32 := 0#32
  let c4_i32_19 : BitVec 32 := 4#32
  let v100 : BitVec 32 := Scalar.addi c0_i32_18 c4_i32_19
  let c1_i32_20 : BitVec 32 := 1#32
  ⟨c0_i32_18, v100, c1_i32_20⟩
def k0_mult3 (k0_t3 : Fin k0_t3_loop.trips) : BitVec 32 :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  v104
def k0_off124 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v106 : Index := Scalar.indexCast v105
  let c0_23 : Index := 0#32
  ![v106.toNat, 0]
def k0_off125 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v169 : Index := Scalar.indexCast v105
  let c0_31 : Index := 0#32
  ![v169.toNat, 0]
def k0_off126 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v172 : Index := Scalar.indexCast v105
  let c0_32 : Index := 0#32
  ![v172.toNat, 0]
def k0_off127 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v184 : Index := Scalar.indexCast v105
  let c128 : Index := 128#32
  ![v184.toNat, 128]
def k0_off128 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v196 : Index := Scalar.indexCast v105
  let c256 : Index := 256#32
  ![v196.toNat, 256]
def k0_off129 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v208 : Index := Scalar.indexCast v105
  let c384 : Index := 384#32
  ![v208.toNat, 384]
def k0_off130 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v220 : Index := Scalar.indexCast v105
  let c512 : Index := 512#32
  ![v220.toNat, 512]
def k0_off131 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v232 : Index := Scalar.indexCast v105
  let c640 : Index := 640#32
  ![v232.toNat, 640]
def k0_off132 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v244 : Index := Scalar.indexCast v105
  let c768 : Index := 768#32
  ![v244.toNat, 768]
def k0_off133 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v256 : Index := Scalar.indexCast v105
  let c896 : Index := 896#32
  ![v256.toNat, 896]
def k0_off134 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v268 : Index := Scalar.indexCast v105
  let c1024 : Index := 1024#32
  ![v268.toNat, 1024]
def k0_off135 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v280 : Index := Scalar.indexCast v105
  let c1152 : Index := 1152#32
  ![v280.toNat, 1152]
def k0_off136 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v292 : Index := Scalar.indexCast v105
  let c1280 : Index := 1280#32
  ![v292.toNat, 1280]
def k0_off137 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v304 : Index := Scalar.indexCast v105
  let c1408 : Index := 1408#32
  ![v304.toNat, 1408]
def k0_off138 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v316 : Index := Scalar.indexCast v105
  let c1536 : Index := 1536#32
  ![v316.toNat, 1536]
def k0_off139 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v328 : Index := Scalar.indexCast v105
  let c1664 : Index := 1664#32
  ![v328.toNat, 1664]
def k0_off140 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v340 : Index := Scalar.indexCast v105
  let c1792 : Index := 1792#32
  ![v340.toNat, 1792]
def k0_off141 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v352 : Index := Scalar.indexCast v105
  let c1920 : Index := 1920#32
  ![v352.toNat, 1920]
def k0_off142 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v364 : Index := Scalar.indexCast v105
  let c2048 : Index := 2048#32
  ![v364.toNat, 2048]
def k0_off143 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v376 : Index := Scalar.indexCast v105
  let c2176 : Index := 2176#32
  ![v376.toNat, 2176]
def k0_off144 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v388 : Index := Scalar.indexCast v105
  let c2304 : Index := 2304#32
  ![v388.toNat, 2304]
def k0_off145 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v400 : Index := Scalar.indexCast v105
  let c2432 : Index := 2432#32
  ![v400.toNat, 2432]
def k0_off146 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v412 : Index := Scalar.indexCast v105
  let c2560 : Index := 2560#32
  ![v412.toNat, 2560]
def k0_off147 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v424 : Index := Scalar.indexCast v105
  let c2688 : Index := 2688#32
  ![v424.toNat, 2688]
def k0_off148 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v436 : Index := Scalar.indexCast v105
  let c2816 : Index := 2816#32
  ![v436.toNat, 2816]
def k0_off149 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v448 : Index := Scalar.indexCast v105
  let c2944 : Index := 2944#32
  ![v448.toNat, 2944]
def k0_off150 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v460 : Index := Scalar.indexCast v105
  let c3072 : Index := 3072#32
  ![v460.toNat, 3072]
def k0_off151 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v472 : Index := Scalar.indexCast v105
  let c3200 : Index := 3200#32
  ![v472.toNat, 3200]
def k0_off152 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v484 : Index := Scalar.indexCast v105
  let c3328 : Index := 3328#32
  ![v484.toNat, 3328]
def k0_off153 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v496 : Index := Scalar.indexCast v105
  let c3456 : Index := 3456#32
  ![v496.toNat, 3456]
def k0_off154 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v508 : Index := Scalar.indexCast v105
  let c3584 : Index := 3584#32
  ![v508.toNat, 3584]
def k0_off155 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v520 : Index := Scalar.indexCast v105
  let c3712 : Index := 3712#32
  ![v520.toNat, 3712]
def k0_off156 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v532 : Index := Scalar.indexCast v105
  let c3840 : Index := 3840#32
  ![v532.toNat, 3840]
def k0_off157 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v544 : Index := Scalar.indexCast v105
  let c3968 : Index := 3968#32
  ![v544.toNat, 3968]
def k0_off158 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v556 : Index := Scalar.indexCast v105
  let c4096 : Index := 4096#32
  ![v556.toNat, 4096]
def k0_off159 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v568 : Index := Scalar.indexCast v105
  let c4224 : Index := 4224#32
  ![v568.toNat, 4224]
def k0_off160 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v580 : Index := Scalar.indexCast v105
  let c4352 : Index := 4352#32
  ![v580.toNat, 4352]
def k0_off161 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v592 : Index := Scalar.indexCast v105
  let c4480 : Index := 4480#32
  ![v592.toNat, 4480]
def k0_off162 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v604 : Index := Scalar.indexCast v105
  let c4608 : Index := 4608#32
  ![v604.toNat, 4608]
def k0_off163 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v616 : Index := Scalar.indexCast v105
  let c4736 : Index := 4736#32
  ![v616.toNat, 4736]
def k0_off164 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v628 : Index := Scalar.indexCast v105
  let c4864 : Index := 4864#32
  ![v628.toNat, 4864]
def k0_off165 (k0_t3 : Fin k0_t3_loop.trips) : Fin 2 → Nat :=
  let c0_i32_18 : BitVec 32 := 0#32
  let c1_i32_20 : BitVec 32 := 1#32
  let arg18 : BitVec 32 := Scf.iv c0_i32_18 c1_i32_20 k0_t3
  let c32_i32 : BitVec 32 := 32#32
  let v104 : BitVec 32 := Scalar.muli arg18 c32_i32
  let v105 : BitVec 32 := v104
  let v640 : Index := Scalar.indexCast v105
  let c4992 : Index := 4992#32
  ![v640.toNat, 4992]
def k0_cond2 (i : grid0.Coords) : BitVec 1 :=
  let arg0 : BitVec 32 := BitVec.ofNat 32 (i 0).val
  let c15_i32 : BitVec 32 := 15#32
  let v101 : BitVec 1 := Scalar.cmpi .eq arg0 c15_i32
  let v102 : BitVec 32 := Scalar.extui v101
  let c0_i32_22 : BitVec 32 := 0#32
  let v103 : BitVec 1 := Scalar.cmpi .ne v102 c0_i32_22
  v103

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x5120 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2x1024x5120 : Shape := ⟨3, ![2, 1024, 5120]⟩
abbrev S4 : Shape := ⟨1, ![4]⟩
abbrev S4x2x1024 : Shape := ⟨3, ![4, 2, 1024]⟩
abbrev S5120 : Shape := ⟨1, ![5120]⟩
abbrev S40x128 : Shape := ⟨2, ![40, 128]⟩
abbrev S2x1024x40x128 : Shape := ⟨4, ![2, 1024, 40, 128]⟩
abbrev S_ : Shape := ⟨0, ![]⟩
abbrev S2x1024 : Shape := ⟨2, ![2, 1024]⟩
abbrev S2x1024x1x1 : Shape := ⟨4, ![2, 1024, 1, 1]⟩
abbrev S1 : Shape := ⟨1, ![1]⟩
abbrev S1x2x1024 : Shape := ⟨3, ![1, 2, 1024]⟩
abbrev S1x1x40x128 : Shape := ⟨4, ![1, 1, 40, 128]⟩
abbrev S2x1024x40 : Shape := ⟨3, ![2, 1024, 40]⟩
abbrev S254 : Shape := ⟨1, ![254]⟩
abbrev S2x1024x40x1 : Shape := ⟨4, ![2, 1024, 40, 1]⟩
abbrev S1x1x1x254 : Shape := ⟨4, ![1, 1, 1, 254]⟩
abbrev S2x1024x40x254 : Shape := ⟨4, ![2, 1024, 40, 254]⟩

abbrev nBuf : Space → Nat
  | .hbm => 176
  | .vmem => 2
  | .smem => 0
  | _ => 0

abbrev hbmTy0_0 (i : Nat) : BufTy := match i % 128 with
  | 0 => ⟨S2x1024x5120, .bf16⟩
  | 1 => ⟨S2x1024x5120, .bf16⟩
  | 2 => ⟨S4, .f32⟩
  | 3 => ⟨S4x2x1024, .f32⟩
  | 4 => ⟨S4x2x1024, .f32⟩
  | 5 => ⟨S5120, .f32⟩
  | 6 => ⟨S5120, .f32⟩
  | 7 => ⟨S40x128, .f32⟩
  | 8 => ⟨S40x128, .f32⟩
  | 9 => ⟨S2x1024x5120, .f32⟩
  | 10 => ⟨S2x1024x5120, .f32⟩
  | 11 => ⟨S2x1024x5120, .f32⟩
  | 12 => ⟨S2x1024x5120, .bf16⟩
  | 13 => ⟨S2x1024x40x128, .bf16⟩
  | 14 => ⟨S2x1024x40x128, .f32⟩
  | 15 => ⟨S_, .f32⟩
  | 16 => ⟨S2x1024, .f32⟩
  | 17 => ⟨S_, .f32⟩
  | 18 => ⟨S2x1024, .f32⟩
  | 19 => ⟨S2x1024, .f32⟩
  | 20 => ⟨S2x1024x1x1, .f32⟩
  | 21 => ⟨S2x1024x40x128, .f32⟩
  | 22 => ⟨S2x1024x40x128, .f32⟩
  | 23 => ⟨S2x1024x40x128, .f32⟩
  | 24 => ⟨S_, .f32⟩
  | 25 => ⟨S2x1024, .f32⟩
  | 26 => ⟨S1, .f32⟩
  | 27 => ⟨S_, .f32⟩
  | 28 => ⟨S1x2x1024, .f32⟩
  | 29 => ⟨S2x1024, .f32⟩
  | 30 => ⟨S1x2x1024, .f32⟩
  | 31 => ⟨S2x1024, .f32⟩
  | 32 => ⟨S1, .f32⟩
  | 33 => ⟨S_, .f32⟩
  | 34 => ⟨S1x2x1024, .f32⟩
  | 35 => ⟨S2x1024, .f32⟩
  | 36 => ⟨S1x2x1024, .f32⟩
  | 37 => ⟨S2x1024, .f32⟩
  | 38 => ⟨S_, .f32⟩
  | 39 => ⟨S2x1024, .f32⟩
  | 40 => ⟨S_, .f32⟩
  | 41 => ⟨S2x1024, .f32⟩
  | 42 => ⟨S2x1024, .f32⟩
  | 43 => ⟨S2x1024, .f32⟩
  | 44 => ⟨S2x1024, .f32⟩
  | 45 => ⟨S2x1024, .f32⟩
  | 46 => ⟨S_, .f32⟩
  | 47 => ⟨S_, .f32⟩
  | 48 => ⟨S2x1024, .f32⟩
  | 49 => ⟨S2x1024, .f32⟩
  | 50 => ⟨S2x1024, .f32⟩
  | 51 => ⟨S1, .f32⟩
  | 52 => ⟨S_, .f32⟩
  | 53 => ⟨S1x2x1024, .f32⟩
  | 54 => ⟨S2x1024, .f32⟩
  | 55 => ⟨S1x2x1024, .f32⟩
  | 56 => ⟨S2x1024, .f32⟩
  | 57 => ⟨S_, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S2x1024, .f32⟩
  | 64 => ⟨S2x1024, .f32⟩
  | 65 => ⟨S_, .f32⟩
  | 66 => ⟨S_, .f32⟩
  | 67 => ⟨S2x1024, .f32⟩
  | 68 => ⟨S2x1024, .f32⟩
  | 69 => ⟨S2x1024, .f32⟩
  | 70 => ⟨S_, .f32⟩
  | 71 => ⟨S_, .f32⟩
  | 72 => ⟨S2x1024, .f32⟩
  | 73 => ⟨S_, .f32⟩
  | 74 => ⟨S_, .f32⟩
  | 75 => ⟨S2x1024, .f32⟩
  | 76 => ⟨S2x1024, .f32⟩
  | 77 => ⟨S2x1024, .f32⟩
  | 78 => ⟨S2x1024, .f32⟩
  | 79 => ⟨S2x1024, .f32⟩
  | 80 => ⟨S_, .f32⟩
  | 81 => ⟨S_, .f32⟩
  | 82 => ⟨S_, .f32⟩
  | 83 => ⟨S2x1024, .f32⟩
  | 84 => ⟨S2x1024, .f32⟩
  | 85 => ⟨S2x1024, .f32⟩
  | 86 => ⟨S1, .f32⟩
  | 87 => ⟨S_, .f32⟩
  | 88 => ⟨S1x2x1024, .f32⟩
  | 89 => ⟨S2x1024, .f32⟩
  | 90 => ⟨S1x2x1024, .f32⟩
  | 91 => ⟨S2x1024, .f32⟩
  | 92 => ⟨S_, .f32⟩
  | 93 => ⟨S2x1024, .f32⟩
  | 94 => ⟨S_, .f32⟩
  | 95 => ⟨S2x1024, .f32⟩
  | 96 => ⟨S2x1024, .f32⟩
  | 97 => ⟨S2x1024, .f32⟩
  | 98 => ⟨S2x1024, .f32⟩
  | 99 => ⟨S2x1024, .f32⟩
  | 100 => ⟨S_, .f32⟩
  | 101 => ⟨S_, .f32⟩
  | 102 => ⟨S2x1024, .f32⟩
  | 103 => ⟨S2x1024, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S2x1024x1x1, .f32⟩
  | 112 => ⟨S2x1024x40x128, .f32⟩
  | 113 => ⟨S2x1024x40x128, .f32⟩
  | 114 => ⟨S2x1024x1x1, .f32⟩
  | 115 => ⟨S2x1024x40x128, .f32⟩
  | 116 => ⟨S2x1024x40x128, .f32⟩
  | 117 => ⟨S1x1x40x128, .f32⟩
  | 118 => ⟨S2x1024x40x128, .f32⟩
  | 119 => ⟨S2x1024x40x128, .f32⟩
  | 120 => ⟨S1x1x40x128, .f32⟩
  | 121 => ⟨S2x1024x40x128, .f32⟩
  | 122 => ⟨S2x1024x40x128, .f32⟩
  | 123 => ⟨S2x1024x40x128, .f32⟩
  | 124 => ⟨S_, .f32⟩
  | 125 => ⟨S2x1024x40, .f32⟩
  | 126 => ⟨S_, .f32⟩
  | 127 => ⟨S2x1024x40, .f32⟩
  | _ => ⟨S2x1024x5120, .bf16⟩

abbrev hbmTy0_1 (i : Nat) : BufTy := match i % 128 with
  | 0 => ⟨S2x1024x40, .f32⟩
  | 1 => ⟨S254, .i32⟩
  | 2 => ⟨S_, .i32⟩
  | 3 => ⟨S254, .i32⟩
  | 4 => ⟨S254, .i32⟩
  | 5 => ⟨S254, .f32⟩
  | 6 => ⟨S_, .f32⟩
  | 7 => ⟨S254, .f32⟩
  | 8 => ⟨S254, .f32⟩
  | 9 => ⟨S2x1024x40x1, .f32⟩
  | 10 => ⟨S1x1x1x254, .f32⟩
  | 11 => ⟨S2x1024x40x254, .f32⟩
  | 12 => ⟨S2x1024x40x254, .f32⟩
  | 13 => ⟨S2x1024x40x254, .i1⟩
  | 14 => ⟨S_, .f32⟩
  | 15 => ⟨S_, .f32⟩
  | 16 => ⟨S2x1024x40x254, .f32⟩
  | 17 => ⟨S2x1024x40x254, .f32⟩
  | 18 => ⟨S2x1024x40x254, .f32⟩
  | 19 => ⟨S_, .f32⟩
  | 20 => ⟨S2x1024x40, .f32⟩
  | 21 => ⟨S2x1024x40, .i1⟩
  | 22 => ⟨S_, .f32⟩
  | 23 => ⟨S2x1024x40, .f32⟩
  | 24 => ⟨S2x1024x40, .i1⟩
  | 25 => ⟨S2x1024x40, .i1⟩
  | 26 => ⟨S_, .f32⟩
  | 27 => ⟨S2x1024x40, .f32⟩
  | 28 => ⟨S_, .f32⟩
  | 29 => ⟨S_, .f32⟩
  | 30 => ⟨S2x1024x40, .f32⟩
  | 31 => ⟨S2x1024x40, .f32⟩
  | 32 => ⟨S_, .f32⟩
  | 33 => ⟨S2x1024x40, .f32⟩
  | 34 => ⟨S2x1024x40, .f32⟩
  | 35 => ⟨S2x1024x40x1, .f32⟩
  | 36 => ⟨S2x1024x40x128, .f32⟩
  | 37 => ⟨S2x1024x40x128, .f32⟩
  | 38 => ⟨S_, .f32⟩
  | 39 => ⟨S_, .f32⟩
  | 40 => ⟨S_, .f32⟩
  | 41 => ⟨S2x1024x40x128, .f32⟩
  | 42 => ⟨S2x1024x40x128, .f32⟩
  | 43 => ⟨S_, .f32⟩
  | 44 => ⟨S2x1024x40x128, .f32⟩
  | 45 => ⟨S2x1024x40x128, .f32⟩
  | 46 => ⟨S2x1024x5120, .f32⟩
  | 47 => ⟨S2x1024x5120, .fp8e4m3⟩
  | _ => ⟨S2x1024x5120, .bf16⟩

abbrev hbmTy (i : Nat) : BufTy := match i / 128 with
  | 0 => hbmTy0_0 i
  | 1 => hbmTy0_1 i
  | _ => ⟨S2x1024x5120, .bf16⟩

abbrev bufTy : (tb : Table) → Fin (tcTables nBuf tb) → BufTy
  | .hbm, ⟨i, _⟩ => hbmTy i
  | .local _ .vmem, ⟨0, _⟩ => ⟨S2x1024x5120, .f32⟩
  | .local _ .vmem, ⟨1, _⟩ => ⟨S2x1024x5120, .fp8e4m3⟩
  | _, _ => ⟨S2x1024x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_2 : Ref sig .tc := ⟨.hbm, 70, rfl⟩
abbrev main_v60 : Ref sig .tc := ⟨.hbm, 71, rfl⟩
abbrev main_v61 : Ref sig .tc := ⟨.hbm, 72, rfl⟩
abbrev main_cst_3 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_4 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_cst_5 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_cst_6 : Ref sig .tc := ⟨.hbm, 124, rfl⟩
abbrev main_v110 : Ref sig .tc := ⟨.hbm, 125, rfl⟩
abbrev main_cst_7 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_c : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_cst_8 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_cst_9 : Ref sig .tc := ⟨.hbm, 142, rfl⟩
abbrev main_call0_v0 : Ref sig .tc := ⟨.hbm, 143, rfl⟩
abbrev main_call0_v1 : Ref sig .tc := ⟨.hbm, 144, rfl⟩
abbrev main_call0_v2 : Ref sig .tc := ⟨.hbm, 145, rfl⟩
abbrev main_v124 : Ref sig .tc := ⟨.hbm, 146, rfl⟩
abbrev main_cst_10 : Ref sig .tc := ⟨.hbm, 147, rfl⟩
abbrev main_v125 : Ref sig .tc := ⟨.hbm, 148, rfl⟩
abbrev main_v126 : Ref sig .tc := ⟨.hbm, 149, rfl⟩
abbrev main_cst_11 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_12 : Ref sig .tc := ⟨.hbm, 154, rfl⟩
abbrev main_v130 : Ref sig .tc := ⟨.hbm, 155, rfl⟩
abbrev main_cst_13 : Ref sig .tc := ⟨.hbm, 156, rfl⟩
abbrev main_call1_v0 : Ref sig .tc := ⟨.hbm, 157, rfl⟩
abbrev main_call1_v1 : Ref sig .tc := ⟨.hbm, 158, rfl⟩
abbrev main_v131 : Ref sig .tc := ⟨.hbm, 159, rfl⟩
abbrev main_cst_14 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_15 : Ref sig .tc := ⟨.hbm, 166, rfl⟩
abbrev main_cst_16 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelFrame.lean ====
/-
  The frame of `Kernel`: the kernel terminates, faults nowhere and leaves its argument arrays and its semaphores as it
  found them. The body is run once at any contents of the buffers it is handed; what it leaves in them is not named
  here (every window's block is forgotten), which is all a frame needs.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body from every operand and scratch buffer at any contents: it runs to its return and hands every buffer
    back at some contents. -/
theorem kernelRun (c : Dev nD) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp Idealize.ShloMosaic.frame (wpE (defs₀ (F := F)) Variants.none (c : Thread nD τ) none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

/-- Every window's block is forgotten: the frame reads nothing of what the body leaves. -/
def forgets0 : Fin 12 → Bool := fun _ => true

/-- The proof data on core `c`: the arrays as the region finds them, nothing named of what the body leaves, the scratch
    at some contents and the generator register at some state between points, full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant conjunct by conjunct: each scratch buffer owned at some contents, the generator register. -/
theorem PhiA0_eq (c : Dev nD) :
    (Pipeline.ΦA (Val := Elt F) (U := UR sig nD τ) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))
def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- The body at a point: the invariant opened, the run, the invariant closed. -/
theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨S0, S1, S2, S3, S4⟩, Hg⟩, HO, W0, W1, W2, W3, W4, W5, W6, W7, W8, W9, W10, W11⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [S0]; · iexact S0
  isplitl [S1]; · iexact S1
  isplitl [S2]; · iexact S2
  isplitl [S3]; · iexact S3
  isplitl [S4]; · iexact S4
  iintro ⟨W0, W1, W2, W3, W4, W5, W6, W7, W8, W9, W10, W11, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  iexact W11

/-- The body table's row at the point is the body as the launch spells it. -/
theorem defs₀_row (t : Fin cfg0.N) : defs₀ (F := F) .tc cfg0.body (cfg0.bodyArgs t (cfg0.slots t)) = bodyAt0 t := by
  unfold defs₀; rw [Defs.onTc_tc]

/-- The launch's body obligation with every window forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-- The buffers the host lines after the region write. -/
def T0 : Finset (Ref sig .tc) := {main_v5, main_v6, main_v7}

theorem hT0 : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  subst hops
  simp only [List.mem_cons, List.mem_nil_iff, or_false] at hop
  rcases hop with rfl | rfl | rfl
  · have : Proc.devRef .tc b = Proc.devRef (τ := τ) .tc main_v5 := by simpa using hb
    have := Proc.devRef_injective _ this; subst this; decide
  · have : Proc.devRef .tc b = Proc.devRef (τ := τ) .tc main_v6 := by simpa using hb
    have := Proc.devRef_injective _ this; subst this; decide
  · have : Proc.devRef .tc b = Proc.devRef (τ := τ) .tc main_v7 := by simpa using hb
    have := Proc.devRef_injective _ this; subst this; decide

set_option backward.isDefEq.respectTransparency.types false in
/-- From any memory with zero counters every weakly fair execution of @main terminates; every final state has each
    input array at its launch contents, every bypassing argument as launched and every semaphore counter at zero. -/
theorem run_main :
    θ_run defs (onTc (τ := τ) (main (F := F))) (s₀ m ρ)
      (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := hT0) (hmain := hmain m Variants.none) (hA := A_eq m) (hΦ := fun _ _ => rfl) (hQ' := fun _ h => h)

/-- The frame: the arguments end unchanged and every semaphore counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
      ⟨((h.1 c).2 main_arg0 (by decide)).trans (V_main_arg0 m c),
      ((h.1 c).2 main_arg1 (by decide)).trans (V_main_arg1 m c),
      (h.1.arr_in c 0 rfl).trans (V_main_arg2 m c),
      (h.1.arr_in c 3 rfl).trans (V_main_arg3 m c),
      (h.1.arr_in c 4 rfl).trans (V_main_arg4 m c),
      ((h.1 c).2 main_arg5 (by decide)).trans (V_main_arg5 m c),
      ((h.1 c).2 main_arg6 (by decide)).trans (V_main_arg6 m c)⟩, h.2⟩) (run_main m ρ)

end Cert.Kernel.Hand

end
-- ==== Proof.KernelIdealFrame.lean ====
/-
  The frame of `KernelIdeal`: the kernel terminates, faults nowhere and leaves its argument arrays and its semaphores as it
  found them. The body is run once at any contents of the buffers it is handed; what it leaves in them is not named
  here (every window's block is forgotten), which is all a frame needs.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body from every operand and scratch buffer at any contents: it runs to its return and hands every buffer
    back at some contents. -/
theorem kernelRun (c : Dev nD) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp Idealize.ShloMosaic.frame (wpE (defs₀ (F := F)) Variants.none (c : Thread nD τ) none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

/-- Every window's block is forgotten: the frame reads nothing of what the body leaves. -/
def forgets0 : Fin 12 → Bool := fun _ => true

/-- The proof data on core `c`: the arrays as the region finds them, nothing named of what the body leaves, the scratch
    at some contents and the generator register at some state between points, full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant conjunct by conjunct: each scratch buffer owned at some contents, the generator register. -/
theorem PhiA0_eq (c : Dev nD) :
    (Pipeline.ΦA (Val := Elt F) (U := UR sig nD τ) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))
def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- The body at a point: the invariant opened, the run, the invariant closed. -/
theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨S0, S1, S2, S3, S4⟩, Hg⟩, HO, W0, W1, W2, W3, W4, W5, W6, W7, W8, W9, W10, W11⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [S0]; · iexact S0
  isplitl [S1]; · iexact S1
  isplitl [S2]; · iexact S2
  isplitl [S3]; · iexact S3
  isplitl [S4]; · iexact S4
  iintro ⟨W0, W1, W2, W3, W4, W5, W6, W7, W8, W9, W10, W11, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  iexact W11

/-- The body table's row at the point is the body as the launch spells it. -/
theorem defs₀_row (t : Fin cfg0.N) : defs₀ (F := F) .tc cfg0.body (cfg0.bodyArgs t (cfg0.slots t)) = bodyAt0 t := by
  unfold defs₀; rw [Defs.onTc_tc]

/-- The launch's body obligation with every window forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-- The buffers the host lines after the region write. -/
def T0 : Finset (Ref sig .tc) := {main_v5, main_v6, main_v7}

theorem hT0 : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  subst hops
  simp only [List.mem_cons, List.mem_nil_iff, or_false] at hop
  rcases hop with rfl | rfl | rfl
  · have : Proc.devRef .tc b = Proc.devRef (τ := τ) .tc main_v5 := by simpa using hb
    have := Proc.devRef_injective _ this; subst this; decide
  · have : Proc.devRef .tc b = Proc.devRef (τ := τ) .tc main_v6 := by simpa using hb
    have := Proc.devRef_injective _ this; subst this; decide
  · have : Proc.devRef .tc b = Proc.devRef (τ := τ) .tc main_v7 := by simpa using hb
    have := Proc.devRef_injective _ this; subst this; decide

set_option backward.isDefEq.respectTransparency.types false in
/-- From any memory with zero counters every weakly fair execution of @main terminates; every final state has each
    input array at its launch contents, every bypassing argument as launched and every semaphore counter at zero. -/
theorem run_main :
    θ_run defs (onTc (τ := τ) (main (F := F))) (s₀ m ρ)
      (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := hT0) (hmain := hmain m Variants.none) (hA := A_eq m) (hΦ := fun _ _ => rfl) (hQ' := fun _ h => h)

/-- The frame: the arguments end unchanged and every semaphore counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
      ⟨((h.1 c).2 main_arg0 (by decide)).trans (V_main_arg0 m c),
      ((h.1 c).2 main_arg1 (by decide)).trans (V_main_arg1 m c),
      (h.1.arr_in c 0 rfl).trans (V_main_arg2 m c),
      (h.1.arr_in c 3 rfl).trans (V_main_arg3 m c),
      (h.1.arr_in c 4 rfl).trans (V_main_arg4 m c),
      ((h.1 c).2 main_arg5 (by decide)).trans (V_main_arg5 m c),
      ((h.1 c).2 main_arg6 (by decide)).trans (V_main_arg6 m c)⟩, h.2⟩) (run_main m ρ)

end Cert.KernelIdeal.Hand

end
-- ==== Proof.Spec.lean ====
/-
  The values one grid point of `KernelIdeal` computes, chunk by chunk, in closed form: the residual sum of a block of
  32 rows and 128 lanes, the row means and the row sums of squared deviations folded over the 40 lane blocks, the
  normalised block, its row maxima, the scales and the codes.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 40 lane blocks in the order the kernel folds them. -/
def up40 : List (Fin 40) := [0, 1, 2, 3, 4, 5, 6, 7, 8, 9, 10, 11, 12, 13, 14, 15, 16, 17, 18, 19, 20, 21, 22, 23, 24, 25, 26, 27, 28, 29, 30, 31, 32, 33, 34, 35, 36, 37, 38, 39]
/-- The 40 lane blocks, last first: the order in which a list of stores names them. -/
def down40 : List (Fin 40) := [39, 38, 37, 36, 35, 34, 33, 32, 31, 30, 29, 28, 27, 26, 25, 24, 23, 22, 21, 20, 19, 18, 17, 16, 15, 14, 13, 12, 11, 10, 9, 8, 7, 6, 5, 4, 3, 2, 1, 0]

theorem mem_down40 (j : Fin 40) : j ∈ down40 := by revert j; decide

/-- A block of 32 rows and 128 lanes of a 128x5120 plane lies inside it. -/
theorem cinb {o : ℕ} (h : o + 32 ≤ 128) (j : Fin 40) :
    ∀ a, (![o, 128 * j.val] : Fin 2 → ℕ) a + S32x128.size a ≤ S128x5120.size a := by
  have := j.isLt
  intro a; fin_cases a
  · exact h
  · show 128 * j.val + 128 ≤ 5120; omega

/-- The block of 32 rows from `o` and of lane block `j`. -/
def blkR (o : ℕ) (h : o + 32 ≤ 128) (j : Fin 40) : Rect S128x5120 := Rect.unit ![o, 128 * j.val] S32x128.size (cinb h j)

/-- Lane block `j` of a one-row plane lies inside it. -/
theorem rinb (j : Fin 40) : ∀ a, (![0, 128 * j.val] : Fin 2 → ℕ) a + S1x128.size a ≤ S1x5120.size a := by
  have := j.isLt
  intro a; fin_cases a
  · show 0 + 1 ≤ 1; omega
  · show 128 * j.val + 128 ≤ 5120; omega

/-- Lane block `j` of a one-row plane. -/
def rowR (j : Fin 40) : Rect S1x5120 := Rect.unit ![0, 128 * j.val] S1x128.size (rinb j)

/-- The residual sum of one block. -/
def hpay (a b : Vec F S32x128 .bf16) : FVec F S32x128 .bf16 :=
  addf (shapeCast S32x128 a shapeCasts_S32x128_S32x128) (shapeCast S32x128 b shapeCasts_S32x128_S32x128)

/-- The row means of a chunk: the 40 blocks added lane by lane, the lanes added, the sum divided by 5120. -/
def meanV (blk : Fin 40 → FVec F S32x128 .bf16) : FVec F S32x1 .f32 :=
  divf (shapeCast S32x1 (multiReduction .add [1] S32
      (up40.foldl (fun a j => addf a (extf .f32 (blk j) bitsLt_bf16_f32)) (broadcast S32x128 (Scalar.ofBits .f32 0x00000000#32)))
      0x00000000#32 reduces_S32x128_S32 (.inl rfl) rfl) shapeCasts_S32_S32x1)
    (broadcast S32x1 (Scalar.ofBits .f32 0x45A00000#32))

/-- A block's deviation from the row means. -/
def devV (mean : FVec F S32x1 .f32) (ld : Vec F S32x128 .bf16) : FVec F S32x128 .f32 :=
  subf (extf .f32 (shapeCast S32x128 ld shapeCasts_S32x128_S32x128) bitsLt_bf16_f32) (broadcastTo S32x128 mean broadcasts_S32x1_S32x128)

/-- The row sums of squared deviations of a chunk. -/
def m2V (mean : FVec F S32x1 .f32) (ld : Fin 40 → Vec F S32x128 .bf16) : FVec F S32x1 .f32 :=
  shapeCast S32x1 (multiReduction .add [1] S32
      (up40.foldl (fun a j => addf a (mulf (devV mean (ld j)) (devV mean (ld j)))) (broadcast S32x128 (Scalar.ofBits .f32 0x00000000#32)))
      0x00000000#32 reduces_S32x128_S32 (.inl rfl) rfl) shapeCasts_S32_S32x1

/-- The chunk of the statistics plane: the mean in lane 0, the sum of squared deviations in every other lane. -/
def statV (mean m2 : FVec F S32x1 .f32) : FVec F S32x128 .f32 :=
  shapeCast S32x128 (select (cmpi .eq (iota .tc S32x128 32 [1] iota_S32x128_d1_w32) (broadcast S32x128 0#32))
    (broadcastTo S32x128 (shapeCast S32x1 mean shapeCasts_S32x1_S32x1) broadcasts_S32x1_S32x128)
    (broadcastTo S32x128 (shapeCast S32x1 m2 shapeCasts_S32x1_S32x1) broadcasts_S32x1_S32x128)) shapeCasts_S32x128_S32x128

/-- The normalised block: deviation times reciprocal deviation times weight plus shift. -/
def yV (st : Vec F S32x128 .f32) (ld : Vec F S32x128 .bf16) (g b : Vec F S1x128 .f32) : FVec F S32x128 .f32 :=
  addf (mulf (mulf (devV (extractStridedSlice S32x1 ![0, 0] st slices_S32x128_o0_0_S32x1) ld)
      (broadcastTo S32x128 (extractStridedSlice S32x1 ![0, 1] st slices_S32x128_o0_1_S32x1) broadcasts_S32x1_S32x128))
      (broadcastTo S32x128 (shapeCast S1x128 g shapeCasts_S1x128_S1x128) broadcasts_S1x128_S32x128))
    (broadcastTo S32x128 (shapeCast S1x128 b shapeCasts_S1x128_S1x128) broadcasts_S1x128_S32x128)

/-- The row maxima of the magnitudes of a block. -/
def amaxV (y : FVec F S32x128 .f32) : FVec F S32x1 .f32 :=
  shapeCast S32x1 (shapeCast S32x1 (multiReduction .maximumf [1] S32 (absf y) 0xFF800000#32 reduces_S32x128_S32 (.inl rfl) rfl)
    shapeCasts_S32_S32x1) shapeCasts_S32x1_S32x1

/-- Column `j` of a 32x40 plane is a slice of it. -/
theorem slcol (j : Fin 40) : S32x40.Slices ![0, j.val] S32x1 := by revert j; decide +kernel

/-- The codes of a block, from the chunk's inverse scales. -/
def qV (inv : FVec F S32x40 .f32) (j : Fin 40) (y : Vec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf y (broadcastTo S32x128 (extractStridedSlice S32x1 ![0, j.val] inv (slcol j)) broadcasts_S32x1_S32x128)))) bitsLt_fp8e4m3_f32

end Cert.KernelIdeal.Val
-- ==== Proof.Spec2.lean ====
/-
  The values of `KernelIdeal` on extended reals, element by element.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import Idealize.ShloMosaic.Lib.Pointwise
public import proofs.«01_k».proof.Proof.Spec

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A list that grows by one trip's items at a time has, after all trips, exactly the items of the trips. -/
theorem mem_grow {α : Type} {T : ℕ} (pb : ℕ → List α) (tr : Fin T → List α) (h0 : pb 0 = [])
    (hs : ∀ k : Fin T, pb (k.val + 1) = tr k ++ pb k.val) (p : α) : p ∈ pb T ↔ ∃ k, p ∈ tr k := by
  have key : ∀ n ≤ T, (p ∈ pb n ↔ ∃ k : Fin T, k.val < n ∧ p ∈ tr k) := by
    intro n; induction n with
    | zero => intro _; rw [h0]; simp
    | succ n ih =>
      intro hn
      rw [hs ⟨n, hn⟩, List.mem_append, ih (by omega)]
      constructor
      · rintro (h | ⟨k, hk, h⟩)
        · exact ⟨⟨n, hn⟩, Nat.lt_succ_self n, h⟩
        · exact ⟨k, by omega, h⟩
      · rintro ⟨k, hk, h⟩
        by_cases hkn : k.val = n
        · left; have : k = ⟨n, hn⟩ := Fin.ext hkn
          rw [← this]; exact h
        · right; exact ⟨k, by omega, h⟩
  rw [key T le_rfl]
  exact ⟨fun ⟨k, _, h⟩ => ⟨k, h⟩, fun ⟨k, h⟩ => ⟨k, k.isLt, h⟩⟩

/-- Blocks of 32 rows and 128 lanes, one for every chunk and lane block, written into a plane: the plane reads as any
    function the blocks agree with. -/
theorem read_blocks {κ : Kind} {sp : Space} {e : EltTy} (v : View sig κ sp S128x5120 e) (f : v.ty.Contents (Elt F))
    (L : List (View.Piece (Elt F) S128x5120 e)) {T : ℕ} (hT : 4 ≤ T) (o : Fin T → ℕ) (ho : ∀ k, o k = 32 * k.val)
    (hle : ∀ k, o k + 32 ≤ 128) (val : Fin T → Fin 40 → S32x128.Idx → Elt F e)
    (hL : ∀ p, p ∈ L ↔ ∃ k, p ∈ down40.map fun j => (⟨blkR (o k) (hle k) j, val k j⟩ : View.Piece (Elt F) S128x5120 e))
    (G : S128x5120.Idx → Elt F e) (hG : ∀ k j x, val k j x = G ((blkR (o k) (hle k) j).emb x)) (y : S128x5120.Idx) :
    v.read (Elt F) (v.writes (Elt F) f L) y = G y := by
  refine View.read_writes_apply_of_pieces v f G L ?_ y ?_
  · intro p hp x
    obtain ⟨k, hk⟩ := (hL p).1 hp
    obtain ⟨j, _, rfl⟩ := List.mem_map.1 hk
    exact hG k j x
  · have h0 : (y 0).val < 128 := (y 0).isLt
    have h1 : (y 1).val < 5120 := (y 1).isLt
    refine ⟨_, (hL _).2 ⟨⟨(y 0).val / 32, by omega⟩, List.mem_map.2 ⟨⟨(y 1).val / 128, by omega⟩, mem_down40 _, rfl⟩⟩, ?_⟩
    unfold blkR
    rw [Rect.mem_set_unit]
    intro a
    rw [ho]
    match a with
    | ⟨0, _⟩ => show 32 * ((y 0).val / 32) ≤ (y 0).val ∧ (y 0).val < 32 * ((y 0).val / 32) + 32; omega
    | ⟨1, _⟩ => show 128 * ((y 1).val / 128) ≤ (y 1).val ∧ (y 1).val < 128 * ((y 1).val / 128) + 128; omega

/-- The blocks of one chunk read back one block at a time. -/
theorem readCov_blocks {κ : Kind} {sp : Space} {e : EltTy} (v : View sig κ sp S128x5120 e) (o : ℕ) (hle : o + 32 ≤ 128)
    (val : Fin 40 → S32x128.Idx → Elt F e) (G : S128x5120.Idx → Elt F e)
    (hG : ∀ j x, val j x = G ((blkR o hle j).emb x)) (j : Fin 40) (x : S32x128.Idx) :
    v.readCov (down40.map fun j => (⟨blkR o hle j, val j⟩ : View.Piece (Elt F) S128x5120 e)) (blkR o hle j).toLoadRect x = val j x := by
  rw [hG]
  refine View.read_writes_apply_of_pieces v _ G _ ?_ ((blkR o hle j).emb x) ?_
  · intro p hp x
    obtain ⟨j, _, rfl⟩ := List.mem_map.1 hp
    exact hG j x
  · exact ⟨_, List.mem_map.2 ⟨j, mem_down40 _, rfl⟩, (blkR o hle j).toLoadRect.idx_mem x⟩

/-- Blocks folded with addition, read at one place: the starting value plus the sum of the blocks there. -/
theorem foldl_addf (z : FVec Ideal S32x128 .f32) (f : Fin 40 → FVec Ideal S32x128 .f32) (x : S32x128.Idx) :
    (up40.foldl (fun a j => addf a (f j)) z : FVec Ideal S32x128 .f32) x = z x + ∑ j : Fin 40, f j x := by
  have key : ∀ (l : List (Fin 40)) (z : FVec Ideal S32x128 .f32),
      (l.foldl (fun a j => addf a (f j)) z : FVec Ideal S32x128 .f32) x = z x + (l.map fun j => f j x).sum := by
    intro l; induction l with
    | nil => intro z; simp
    | cons j l ih => intro z; rw [List.foldl_cons, ih, List.map_cons, List.sum_cons, ← add_assoc]; rfl
  rw [key, Fin.sum_univ_def]
  have : up40 = List.finRange 40 := by decide
  rw [this]

/-- The place of lane `l` of lane block `j`. -/
def lane (j : Fin 40) (l : Fin 128) : Fin 5120 := ⟨128 * j.val + l.val, by have := j.isLt; have := l.isLt; omega⟩

/-- A sum over the 5120 places of a row, lane by lane and block by block. -/
theorem sum_lanes (f : Fin 5120 → EReal) : ∑ l : Fin 128, ∑ j : Fin 40, f (lane j l) = ∑ p : Fin 5120, f p := by
  rw [Finset.sum_comm, ← Fintype.sum_prod_type (f := fun p : Fin 40 × Fin 128 => f (lane p.1 p.2))]
  refine Fintype.sum_equiv (finProdFinEquiv (m := 40) (n := 128)) _ _ fun p => ?_
  congr 1
  apply Fin.ext
  simp [lane, finProdFinEquiv]; omega

/-- The residual sum. -/
def hI (a b : S128x5120.Idx → EReal) : S128x5120.Idx → EReal := fun i => a i + b i

/-- The mean of row `r`. -/
def muI (h : S128x5120.Idx → EReal) (r : Fin 128) : EReal :=
  Ideal.div (∑ l : Fin 5120, h (ix2 r l)) (Ideal.ofBits .f32 0x45A00000#32)

/-- The sum of squared deviations of row `r`. -/
def m2I (h : S128x5120.Idx → EReal) (r : Fin 128) : EReal :=
  ∑ l : Fin 5120, (h (ix2 r l) - muI h r) * (h (ix2 r l) - muI h r)

/-- The plane of row statistics: the mean in lane 0, the sum of squared deviations in every other lane. -/
def statI (h : S128x5120.Idx → EReal) : S128x128.Idx → EReal := fun i => if (i 1).val = 0 then muI h (i 0) else m2I h (i 0)

/-- The normalised plane, from the statistics plane. -/
def yI (st : S128x128.Idx → EReal) (h : S128x5120.Idx → EReal) (g b : S1x5120.Idx → EReal) : S128x5120.Idx → EReal :=
  fun i => (h i - st (ix2 (i 0) 0)) * st (ix2 (i 0) 1) * g (ix2 0 (i 1)) + b (ix2 0 (i 1))

/-- The largest magnitude of a block of 128 lanes. -/
def amaxI (y : S128x5120.Idx → EReal) (r : Fin 128) (j : Fin 40) : EReal :=
  Finset.univ.fold max ⊥ fun l : Fin 128 => max (y (ix2 r (lane j l))) (-(y (ix2 r (lane j l))))

/-- One step of the exponent search: keep bit `b` when the float of the pattern with it does not exceed `v`. -/
def stepE (v : EReal) (e b : BitVec 32) : BitVec 32 := Scalar.select (Ideal.cmp .oge v (Ideal.ofBits .f32 (e ||| b))) (e ||| b) e

/-- The exponent bits of `v`: the greatest pattern of exponent bits alone whose float does not exceed it. -/
def expE (v : EReal) : BitVec 32 :=
  stepE v (stepE v (stepE v (stepE v (stepE v (stepE v (stepE v (stepE v 0#32 1073741824#32) 536870912#32) 268435456#32) 134217728#32)
    67108864#32) 33554432#32) 16777216#32) 8388608#32

/-- Exponents too large to invert count as infinite. -/
def satB (e : BitVec 32) : BitVec 32 := Scalar.select (IntOp.cmpi .sge e 2122317824#32) 2139095040#32 e

/-- The exponents a block of scale one has: zero and the infinite one. -/
def maskB (e : BitVec 32) : BitVec 1 := IntOp.ori (IntOp.cmpi .eq (satB e) 0#32) (IntOp.cmpi .eq (satB e) 2139095040#32)

/-- The bits of the scale. -/
def scB (e : BitVec 32) : BitVec 32 := Scalar.select (maskB e) 1065353216#32 (satB e + 8388608#32)

/-- The bits of the inverse scale. -/
def invB (e : BitVec 32) : BitVec 32 := Scalar.select (maskB e) 1065353216#32 (2122317824#32 - satB e)

/-- The kernel's scale of a block whose largest magnitude is `a`. -/
def scaleI (a : EReal) : EReal := Ideal.ofBits .f32 (scB (expE (a * Ideal.ofBits .f32 0x3B124925#32)))

/-- The kernel's inverse scale of a block whose largest magnitude is `a`. -/
def invI (a : EReal) : EReal := Ideal.ofBits .f32 (invB (expE (a * Ideal.ofBits .f32 0x3B124925#32)))

/-- One step of the exponent search, on a plane. -/
def stepV (v : FVec Ideal S32x40 .f32) (e : IVec S32x40 32) (b : BitVec 32) : IVec S32x40 32 :=
  select (cmpf .oge v (bitcastToFloat .f32 (ori e (broadcast S32x40 b)))) (ori e (broadcast S32x40 b)) e

theorem stepV_apply (v : FVec Ideal S32x40 .f32) (e : IVec S32x40 32) (b : BitVec 32) (x : S32x40.Idx) :
    stepV v e b x = stepE (v x) (e x) b := rfl

theorem search_eq (V : Vec Ideal S32x40 .f32) : k0_pay335 (F := Ideal) V =
    stepV (mulf (φ := .f32) V (broadcast S32x40 (Scalar.ofBits .f32 0x3B124925#32))) (stepV (mulf (φ := .f32) V (broadcast S32x40 (Scalar.ofBits .f32 0x3B124925#32)))
    (stepV (mulf (φ := .f32) V (broadcast S32x40 (Scalar.ofBits .f32 0x3B124925#32))) (stepV (mulf (φ := .f32) V (broadcast S32x40 (Scalar.ofBits .f32 0x3B124925#32)))
    (stepV (mulf (φ := .f32) V (broadcast S32x40 (Scalar.ofBits .f32 0x3B124925#32))) (stepV (mulf (φ := .f32) V (broadcast S32x40 (Scalar.ofBits .f32 0x3B124925#32)))
    (stepV (mulf (φ := .f32) V (broadcast S32x40 (Scalar.ofBits .f32 0x3B124925#32))) (stepV (mulf (φ := .f32) V (broadcast S32x40 (Scalar.ofBits .f32 0x3B124925#32)))
      (broadcast S32x40 0#32) 1073741824#32) 536870912#32) 268435456#32) 134217728#32)
    67108864#32) 33554432#32) 16777216#32) 8388608#32 := by
  unfold k0_pay335; dsimp only; unfold stepV; rfl

theorem search_apply (V : Vec Ideal S32x40 .f32) (x : S32x40.Idx) :
    k0_pay335 (F := Ideal) V x = expE ((V x : EReal) * Ideal.ofBits .f32 0x3B124925#32) := by
  rw [search_eq]
  simp only [stepV_apply]
  rfl

theorem scale_apply (V : Vec Ideal S32x40 .f32) (x : S32x40.Idx) : k0_pay338 (F := Ideal) (k0_pay335 (F := Ideal) V) x = scaleI (V x) := by
  unfold scaleI
  rw [← search_apply]
  generalize k0_pay335 (F := Ideal) V = E
  rfl

theorem invScale_apply (V : Vec Ideal S32x40 .f32) (x : S32x40.Idx) : k0_pay339 (F := Ideal) (k0_pay335 (F := Ideal) V) x = invI (V x) := by
  unfold invI
  rw [← search_apply]
  generalize k0_pay335 (F := Ideal) V = E
  rfl

/-- The lane block of a place. -/
def blkOf (p : Fin 5120) : Fin 40 := ⟨p.val / 128, by have := p.isLt; omega⟩

/-- The codes of a plane. -/
def qI (y : S128x5120.Idx → EReal) (am : Fin 128 → Fin 40 → EReal) : S128x5120.Idx → EReal := fun i =>
  min (Ideal.ofBits .f32 0x43E00000#32) (max (Ideal.ofBits .f32 0xC3E00000#32) (y i * invI (am (i 0) (blkOf (i 1)))))

end Cert.KernelIdeal.Val
-- ==== Proof.Point.lean ====
/-
  The merged statistics of one grid point of `KernelIdeal`, on extended reals.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import Idealize.ShloMosaic.Lib.Pointwise
public import Idealize.ShloMosaic.Lib.IdealHost
public import proofs.«01_k».proof.Proof.Spec2

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The mean of two merged sets. -/
def mgM (na ma nb mb : EReal) : EReal := ma + (mb - ma) * Ideal.div nb (na + nb)

/-- The sum of squared deviations of two merged sets. -/
def mgS (na ma sa nb mb sb : EReal) : EReal := sa + sb + (mb - ma) * (mb - ma) * Ideal.div (na * nb) (na + nb)

/-- The number of values of the set this kernel holds. -/
def cnt : EReal := Ideal.ofBits .f32 0x45A00000#32

/-- The merged mean: three sets, the local one, and the last set. `n` are the counts, `p` the four means and the four
    sums of squared deviations, `lm` and `ls` the local statistics. -/
def mean2 (n : Fin 4 → EReal) (p : Fin 8 → EReal) : EReal := mgM (n 0) (p 0) (n 1) (p 1)
def mean3 (n : Fin 4 → EReal) (p : Fin 8 → EReal) : EReal := mgM (n 0 + n 1) (mean2 n p) (n 2) (p 2)
def mean4 (n : Fin 4 → EReal) (p : Fin 8 → EReal) (lm : EReal) : EReal := mgM (n 0 + n 1 + n 2) (mean3 n p) cnt lm
def gMean (n : Fin 4 → EReal) (p : Fin 8 → EReal) (lm : EReal) : EReal := mgM (n 0 + n 1 + n 2 + cnt) (mean4 n p lm) (n 3) (p 3)

/-- The merged sum of squared deviations, in the same order. -/
def ssq2 (n : Fin 4 → EReal) (p : Fin 8 → EReal) : EReal := mgS (n 0) (p 0) (p 4) (n 1) (p 1) (p 5)
def ssq3 (n : Fin 4 → EReal) (p : Fin 8 → EReal) : EReal := mgS (n 0 + n 1) (mean2 n p) (ssq2 n p) (n 2) (p 2) (p 6)
def ssq4 (n : Fin 4 → EReal) (p : Fin 8 → EReal) (lm ls : EReal) : EReal := mgS (n 0 + n 1 + n 2) (mean3 n p) (ssq3 n p) cnt lm ls
def gSsq (n : Fin 4 → EReal) (p : Fin 8 → EReal) (lm ls : EReal) : EReal :=
  mgS (n 0 + n 1 + n 2 + cnt) (mean4 n p lm) (ssq4 n p lm ls) (n 3) (p 3) (p 7)

/-- The reciprocal deviation. -/
def gRstd (n : Fin 4 → EReal) (p : Fin 8 → EReal) (lm ls : EReal) : EReal :=
  Ideal.rsqrt (Ideal.div (gSsq n p lm ls) (n 0 + n 1 + n 2 + cnt + n 3) + Ideal.ofBits .f32 0x3727C5AC#32)

/-- The merged statistics as the kernel lays them out: the mean in row 0, the reciprocal deviation in every other row. -/
theorem merge_apply (v4 : Vec Ideal S128x128 .f32) (v7 : Vec Ideal S1x8x128 .f32) (v10 v15 v31 v62 : EReal) (a r : Fin 128) :
    k0_pay429 (F := Ideal) (k0_pay414 v4) (k0_pay415 v7) k0_pay416 (k0_pay420 v10 v15) (k0_pay423 v31) (k0_pay424 v10 v15 v31)
      (k0_pay426 v7 v10 v15 v31) (k0_pay427 v7 v10 v15) (k0_pay428 v7 v10 v15) v62 (ix2 a r) =
    if a.val = 0 then gMean ![v10, v15, v31, v62] (fun q => v7 (ix3 0 q r)) (v4 (ix2 r 0))
    else gRstd ![v10, v15, v31, v62] (fun q => v7 (ix3 0 q r)) (v4 (ix2 r 0)) (v4 (ix2 r 1)) := by
  have hc : ∀ l : Fin 128, IntOp.cmpi .eq (BitVec.ofNat 32 l.val) 0#32 = if l.val = 0 then 1#1 else 0#1 := by decide
  pointwise [k0_pay429, k0_pay414, k0_pay415, k0_pay416, k0_pay417, k0_pay418, k0_pay419, k0_pay420, k0_pay421, k0_pay422, k0_pay423, k0_pay424, k0_pay425, k0_pay426, k0_pay427, k0_pay428, hc]
  by_cases ha : a.val = 0
  · rw [if_pos ha, if_pos ha]; rfl
  · rw [if_neg ha, if_neg ha]; rfl

end Cert.KernelIdeal.Val
-- ==== Proof.Trip3.lean ====
/-
  One trip of the third loop of `KernelIdeal`: the list of stores it makes, in closed form.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import proofs.«01_k».proof.Proof.Spec

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row of chunk `k` of the third loop. -/
def ro3 (k : Fin k0_t3_loop.trips) : ℕ := k0_off126 k 0

theorem ro3_eq : ∀ k : Fin k0_t3_loop.trips, ro3 k = 32 * k.val := by decide +kernel

theorem ro3_le (k : Fin k0_t3_loop.trips) : ro3 k + 32 ≤ 128 := by
  rw [ro3_eq]; have h := k.isLt; have h4 : k0_t3_loop.trips ≤ 4 := k0_t3_abs.2.1; omega

set_option maxHeartbeats 4000000 in
set_option maxRecDepth 65536 in
theorem trip3_eq (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X13 : arg13.view.ty.Contents (Elt F))(X15 : arg15.view.ty.Contents (Elt F)) (k : Fin k0_t3_loop.trips) :
    tripL_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 k =
      (down40.map (fun j => (⟨blkR (ro3 k) (ro3_le k) j,
          qV (k0_pay339 (k0_pay335 (arg15.view.readAt (Elt F) (Rect.unit (s := S128x128) (k0_off124 k) S32x40.size (k0_off124_inb k)).toLoadRect X15))) j
            (arg13.view.readAt (Elt F) (blkR (ro3 k) (ro3_le k) j).toLoadRect X13)⟩ : View.Piece (Elt F) S128x5120 .fp8e4m3)),
       [⟨Rect.unit (k0_off125 k) S32x40.size (k0_off125_inb k),
          k0_pay338 (k0_pay335 (arg15.view.readAt (Elt F) (Rect.unit (s := S128x128) (k0_off124 k) S32x40.size (k0_off124_inb k)).toLoadRect X15))⟩]) := by
  unfold tripL_k0_t3 trip_k0_t3; dsimp only
  rfl

end Cert.KernelIdeal.Val
-- ==== Proof.LoopVal3.lean ====
/-
  What the third loop of `KernelIdeal` leaves behind, on extended reals.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import Idealize.ShloMosaic.Lib.Pointwise
public import proofs.«01_k».proof.Proof.Spec2
public import proofs.«01_k».proof.Proof.Trip3

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem trips3 : k0_t3_loop.trips = 4 := by decide +kernel

/-- The largest magnitudes the plane of maxima holds. -/
def amOf (p : S128x128.Idx → EReal) (r : Fin 128) (j : Fin 40) : EReal := p (ix2 r (⟨j.val, by omega⟩ : Fin 128))

/-- The pieces the third loop writes over the codes. -/
theorem mem3_8 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X13 : arg13.view.ty.Contents (Elt Ideal)) (X15 : arg15.view.ty.Contents (Elt Ideal)) (p : View.Piece (Elt Ideal) S128x5120 .fp8e4m3) :
    p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 k0_t3_loop.trips).1 ↔ ∃ k, p ∈ down40.map fun j => (⟨blkR (ro3 k) (ro3_le k) j, qV (F := Ideal) (k0_pay339 (k0_pay335 (arg15.view.readAt (Elt Ideal) (Rect.unit (s := S128x128) (k0_off124 k) S32x40.size (k0_off124_inb k)).toLoadRect X15))) j (arg13.view.readAt (Elt Ideal) (blkR (ro3 k) (ro3_le k) j).toLoadRect X13)⟩ : View.Piece (Elt Ideal) S128x5120 .fp8e4m3) := by
  refine mem_grow (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 n).1) _ rfl (fun k => ?_) p
  show (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 (k.val + 1)).1 = _
  rw [pb_k0_t3_succ, trip3_eq]

/-- The pieces the third loop writes over the scales. -/
theorem mem3_9 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X13 : arg13.view.ty.Contents (Elt Ideal)) (X15 : arg15.view.ty.Contents (Elt Ideal)) (p : View.Piece (Elt Ideal) S128x40 .f32) :
    p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 k0_t3_loop.trips).2 ↔ ∃ k, p ∈ [(⟨Rect.unit (k0_off125 k) S32x40.size (k0_off125_inb k), k0_pay338 (F := Ideal) (k0_pay335 (arg15.view.readAt (Elt Ideal) (Rect.unit (s := S128x128) (k0_off124 k) S32x40.size (k0_off124_inb k)).toLoadRect X15))⟩ : View.Piece (Elt Ideal) S128x40 .f32)] := by
  refine mem_grow (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 n).2) _ rfl (fun k => ?_) p
  show (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 (k.val + 1)).2 = _
  rw [pb_k0_t3_succ, trip3_eq]

theorem qV_apply (inv : FVec Ideal S32x40 .f32) (j : Fin 40) (y : FVec Ideal S32x128 .f32) (r : Fin 32) (l : Fin 128) :
    qV (F := Ideal) inv j y (ix2 r l) =
      (min (Ideal.ofBits .f32 0x43E00000#32) (max (Ideal.ofBits .f32 0xC3E00000#32) (y (ix2 r l) * inv (ix2 r j))) : EReal) := by
  unfold qV
  pointwise

theorem emb3 (o : ℕ) (h : o + 32 ≤ 128) (j : Fin 40) (r : Fin 32) (l : Fin 128) :
    (blkR o h j).emb (ix2 r l) = (ix2 (⟨o + r.val, by omega⟩ : Fin 128) (lane j l) : S128x5120.Idx) := by
  funext a
  match a with
  | ⟨0, _⟩ => apply Fin.ext; show o + 1 * r.val = o + r.val; omega
  | ⟨1, _⟩ => apply Fin.ext; show 128 * j.val + 1 * l.val = 128 * j.val + l.val; omega

theorem blkOf_lane (j : Fin 40) (l : Fin 128) : blkOf (lane j l) = j := by
  apply Fin.ext; show (128 * j.val + l.val) / 128 = j.val; omega

/-- The places of a chunk of the plane of maxima. -/
theorem emb124 (k : Fin k0_t3_loop.trips) (r : Fin 32) (j : Fin 40) :
    (Rect.unit (s := S128x128) (k0_off124 k) S32x40.size (k0_off124_inb k)).emb (ix2 r j) = (ix2 (⟨ro3 k + r.val, by have := ro3_le k; omega⟩ : Fin 128) (⟨j.val, by omega⟩ : Fin 128) : S128x128.Idx) := by
  funext a
  apply Fin.ext
  show k0_off124 k a + 1 * (ix2 r j a : ℕ) = _
  rw [k0_off124_eq]
  match a with
  | ⟨0, _⟩ => show 32 * k.val + 1 * r.val = ro3 k + r.val; rw [ro3_eq]; omega
  | ⟨1, _⟩ => show 0 + 1 * j.val = j.val; omega

/-- The places of a chunk of the scales. -/
theorem emb125 (k : Fin k0_t3_loop.trips) (r : Fin 32) (j : Fin 40) :
    (Rect.unit (s := S128x40) (k0_off125 k) S32x40.size (k0_off125_inb k)).emb (ix2 r j) = (ix2 (⟨ro3 k + r.val, by have := ro3_le k; omega⟩ : Fin 128) j : S128x40.Idx) := by
  funext a
  apply Fin.ext
  show k0_off125 k a + 1 * (ix2 r j a : ℕ) = _
  rw [k0_off125_eq]
  match a with
  | ⟨0, _⟩ => show 32 * k.val + 1 * r.val = ro3 k + r.val; rw [ro3_eq]; omega
  | ⟨1, _⟩ => show 0 + 1 * j.val = j.val; omega

/-- After the third loop the codes are the quantised normalised plane. -/
theorem t3_8 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X13 : arg13.view.ty.Contents (Elt Ideal)) (X15 : arg15.view.ty.Contents (Elt Ideal)) (f : arg8.view.ty.Contents (Elt Ideal)) (y : S128x5120.Idx) :
    arg8.view.read (Elt Ideal) (arg8.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 k0_t3_loop.trips).1) y = qI (arg13.view.read (Elt Ideal) X13) (amOf (arg15.view.read (Elt Ideal) X15)) y := by
  refine read_blocks (F := Ideal) arg8.view f _ (le_of_eq trips3.symm) ro3 ro3_eq ro3_le (fun k j => qV (F := Ideal) (k0_pay339 (k0_pay335 (arg15.view.readAt (Elt Ideal) (Rect.unit (s := S128x128) (k0_off124 k) S32x40.size (k0_off124_inb k)).toLoadRect X15))) j (arg13.view.readAt (Elt Ideal) (blkR (ro3 k) (ro3_le k) j).toLoadRect X13))
    (mem3_8 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15) (qI (arg13.view.read (Elt Ideal) X13) (amOf (arg15.view.read (Elt Ideal) X15))) (fun k j x => ?_) y
  obtain ⟨r, l, rfl⟩ : ∃ (r : Fin 32) (l : Fin 128), x = ix2 r l := ⟨x 0, x 1, eq_ix2 x⟩
  refine (qV_apply _ j _ r l).trans ?_
  rw [invScale_apply, emb3]
  unfold qI amOf
  rw [ix2_0, ix2_1, blkOf_lane, ← emb124, ← emb3 (ro3 k) (ro3_le k) j r l]
  rfl

/-- After the third loop the scales are the scales of the blocks. -/
theorem t3_9 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X13 : arg13.view.ty.Contents (Elt Ideal)) (X15 : arg15.view.ty.Contents (Elt Ideal)) (f : arg9.view.ty.Contents (Elt Ideal)) (y : S128x40.Idx) :
    arg9.view.read (Elt Ideal) (arg9.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 k0_t3_loop.trips).2) y = scaleI (amOf (arg15.view.read (Elt Ideal) X15) (y 0) (y 1)) := by
  refine View.read_writes_apply_of_pieces arg9.view f (fun y : S128x40.Idx => scaleI (amOf (arg15.view.read (Elt Ideal) X15) (y 0) (y 1))) (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 k0_t3_loop.trips).2 ?_ y ?_
  · intro p hp x
    obtain ⟨k, hk⟩ := (mem3_9 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 p).1 hp
    rw [List.mem_singleton] at hk
    subst hk
    obtain ⟨r, j, rfl⟩ : ∃ (r : Fin 32) (j : Fin 40), x = ix2 r j := ⟨x 0, x 1, eq_ix2 x⟩
    refine Eq.trans ?_ (congrArg (fun y : S128x40.Idx => scaleI (amOf (arg15.view.read (Elt Ideal) X15) (y 0) (y 1))) (emb125 k r j)).symm
    dsimp only
    refine (scale_apply _ _).trans ?_
    unfold amOf
    rw [ix2_0, ix2_1, ← emb124]
    rfl
  · have h0 : (y 0).val < 128 := (y 0).isLt
    have h1 : (y 1).val < 40 := (y 1).isLt
    refine ⟨_, (mem3_9 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X13 X15 _).2 ⟨⟨(y 0).val / 32, by rw [trips3]; omega⟩, List.mem_singleton.2 rfl⟩, ?_⟩
    rw [Rect.mem_set_unit]
    intro a
    rw [k0_off125_eq]
    match a with
    | ⟨0, _⟩ => show 32 * ((y 0).val / 32) ≤ (y 0).val ∧ (y 0).val < 32 * ((y 0).val / 32) + 32; omega
    | ⟨1, _⟩ => show 0 ≤ (y 1).val ∧ (y 1).val < 0 + 40; omega

end Cert.KernelIdeal.Val
-- ==== Proof.RunPure.lean ====
/-
  The stores of one grid point of `KernelIdeal` outside its loops, on extended reals: the peer table, the merged
  statistics, the table of results and the two results copied out of it.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import Idealize.ShloMosaic.Lib.Pointwise
public import proofs.«01_k».proof.Proof.Point
public import proofs.«01_k».proof.Proof.LoopVal3

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid point as a row of the tables. -/
def pt (i : grid0.Coords) : Fin 16 := ⟨(i 0).val, (i 0).isLt⟩

/-- The four counts. -/
def nOf (a : S4.Idx → EReal) : Fin 4 → EReal := fun k => a (ix1 k)

/-- The merged mean of row `r` of point `i`, from the counts, the peer table and the residual sum. -/
def gmP (n : Fin 4 → EReal) (T : S16x8x128.Idx → EReal) (h : S128x5120.Idx → EReal) (i : Fin 16) (r : Fin 128) : EReal :=
  gMean n (fun q => T (ix3 i q r)) (muI h r)

/-- The reciprocal deviation of row `r` of point `i`. -/
def grP (n : Fin 4 → EReal) (T : S16x8x128.Idx → EReal) (h : S128x5120.Idx → EReal) (i : Fin 16) (r : Fin 128) : EReal :=
  gRstd n (fun q => T (ix3 i q r)) (muI h r) (m2I h r)

/-- The statistics plane the second loop reads. -/
def stI (n : Fin 4 → EReal) (T : S16x8x128.Idx → EReal) (h : S128x5120.Idx → EReal) (i : Fin 16) : S128x128.Idx → EReal :=
  fun y => if (y 1).val = 0 then gmP n T h i (y 0) else grP n T h i (y 0)

/-- The table of results with the row of point `i` filled. -/
def outI (n : Fin 4 → EReal) (T : S16x8x128.Idx → EReal) (h : S128x5120.Idx → EReal) (i : Fin 16) (d : S16x8x128.Idx → EReal) : S16x8x128.Idx → EReal :=
  fun y => if (y 0).val = i.val then (if (y 1).val = 0 then gmP n T h i (y 2) else grP n T h i (y 2)) else d y

/-- The merged statistics plane, from what the point reads. -/
def mergedV (v4 : Vec Ideal S128x128 .f32) (v7 : Vec Ideal S1x8x128 .f32) (v10 v15 v31 v62 : Elt Ideal .f32) : FVec Ideal S128x128 .f32 :=
  k0_pay429 (F := Ideal) (k0_pay414 v4) (k0_pay415 v7) k0_pay416 (k0_pay420 v10 v15) (k0_pay423 v31) (k0_pay424 v10 v15 v31)
      (k0_pay426 v7 v10 v15 v31) (k0_pay427 v7 v10 v15) (k0_pay428 v7 v10 v15) v62

/-- The plane stored for the second loop. -/
def stV (v4 : Vec Ideal S128x128 .f32) (v7 : Vec Ideal S1x8x128 .f32) (v10 v15 v31 v62 : Elt Ideal .f32) : FVec Ideal S128x128 .f32 :=
  k0_pay1 (k0_pay431 (F := Ideal) (k0_pay414 v4) (k0_pay415 v7) k0_pay416 (k0_pay420 v10 v15) (k0_pay423 v31) (k0_pay424 v10 v15 v31)
      (k0_pay426 v7 v10 v15 v31) (k0_pay427 v7 v10 v15) (k0_pay428 v7 v10 v15) v62)

/-- The row stored in the table of results. -/
def outV (v4 : Vec Ideal S128x128 .f32) (v7 : Vec Ideal S1x8x128 .f32) (v10 v15 v31 v62 : Elt Ideal .f32) : FVec Ideal S1x8x128 .f32 :=
  k0_pay430 (F := Ideal) (k0_pay414 v4) (k0_pay415 v7) k0_pay416 (k0_pay420 v10 v15) (k0_pay423 v31) (k0_pay424 v10 v15 v31)
      (k0_pay426 v7 v10 v15 v31) (k0_pay427 v7 v10 v15) (k0_pay428 v7 v10 v15) v62

theorem stV_apply (v4 : Vec Ideal S128x128 .f32) (v7 : Vec Ideal S1x8x128 .f32) (v10 v15 v31 v62 : Elt Ideal .f32) (r l : Fin 128) :
    stV v4 v7 v10 v15 v31 v62 (ix2 r l) = mergedV v4 v7 v10 v15 v31 v62 (ix2 l r) := by
  unfold stV k0_pay1 k0_pay431 mergedV
  generalize k0_pay429 (F := Ideal) _ _ _ _ _ _ _ _ _ _ = M
  pointwise

theorem outV_apply (v4 : Vec Ideal S128x128 .f32) (v7 : Vec Ideal S1x8x128 .f32) (v10 v15 v31 v62 : Elt Ideal .f32) (z : Fin 1) (a : Fin 8) (r : Fin 128) :
    outV v4 v7 v10 v15 v31 v62 (ix3 z a r) = mergedV v4 v7 v10 v15 v31 v62 (ix2 (⟨a.val, by omega⟩ : Fin 128) r) := by
  unfold outV k0_pay430 mergedV
  generalize k0_pay429 (F := Ideal) _ _ _ _ _ _ _ _ _ _ = M
  pointwise

section
variable {κ1 κ14 κ16 κ17 : Kind} {sp1 sp14 sp16 sp17 : Space} (v1 : View sig κ1 sp1 S4 .f32) (v14 : View sig κ14 sp14 S128x128 .f32)
  (v16 : View sig κ16 sp16 S16x8x128 .f32) (v17 : View sig κ17 sp17 S16x8x128 .f32)

/-- The whole statistics plane loaded. -/
abbrev ld14 (X : v14.ty.Contents (Elt Ideal)) : Vec Ideal S128x128 .f32 :=
  v14.readAt (Elt Ideal) (Rect.unit (s := S128x128) ![0, 0] S128x128.size inb_S128x128_S128x128_0_0).toLoadRect X

/-- The point's row of the peer table loaded. -/
abbrev ld16 (i : grid0.Coords) (X : v16.ty.Contents (Elt Ideal)) : Vec Ideal S1x8x128 .f32 :=
  v16.readAt (Elt Ideal) (Rect.unit (s := S16x8x128) (k0_off42 i) S1x8x128.size (k0_off42_inb i)).toLoadRect X

theorem ld14_apply (X : v14.ty.Contents (Elt Ideal)) (r l : Fin 128) : ld14 v14 X (ix2 r l) = v14.read (Elt Ideal) X (ix2 r l) := by
  have he : (Rect.unit (s := S128x128) ![0, 0] S128x128.size inb_S128x128_S128x128_0_0).toLoadRect.idx (ix2 r l) = (ix2 r l : S128x128.Idx) := by
    funext a
    apply Fin.ext
    match a with
    | ⟨0, _⟩ => show 0 + 1 * r.val = r.val; omega
    | ⟨1, _⟩ => show 0 + 1 * l.val = l.val; omega
  exact congrArg (v14.read (Elt Ideal) X) he

theorem emb42 (i : grid0.Coords) (z : Fin 1) (q : Fin 8) (r : Fin 128) :
    (Rect.unit (s := S16x8x128) (k0_off42 i) S1x8x128.size (k0_off42_inb i)).emb (ix3 z q r) = (ix3 (pt i) q r : S16x8x128.Idx) := by
  funext a
  apply Fin.ext
  show k0_off42 i a + 1 * (ix3 z q r a : ℕ) = _
  rw [k0_off42_eq]
  match a with
  | ⟨0, _⟩ => show (i 0).val + 1 * z.val = (i 0).val; omega
  | ⟨1, _⟩ => show 0 + 1 * q.val = q.val; omega
  | ⟨2, _⟩ => show 0 + 1 * r.val = r.val; omega

theorem ld16_apply (i : grid0.Coords) (X : v16.ty.Contents (Elt Ideal)) (q : Fin 8) (r : Fin 128) :
    ld16 v16 i X (ix3 0 q r) = v16.read (Elt Ideal) X (ix3 (pt i) q r) :=
  congrArg (v16.read (Elt Ideal) X) (emb42 i 0 q r)

/-- The merged statistics plane of a point, when the statistics plane and the peer table are known. -/
theorem mergedV_apply (i : grid0.Coords) (X14 : v14.ty.Contents (Elt Ideal)) (X16 : v16.ty.Contents (Elt Ideal)) (h : S128x5120.Idx → EReal)
    (h14 : ∀ y, v14.read (Elt Ideal) X14 y = statI h y) (T : S16x8x128.Idx → EReal) (h16 : ∀ y, v16.read (Elt Ideal) X16 y = T y)
    (n0 n1 n2 n3 : Elt Ideal .f32) (n : Fin 4 → EReal) (hn : n = ![n0, n1, n2, n3]) (a r : Fin 128) :
    mergedV (ld14 v14 X14) (ld16 v16 i X16) n0 n1 n2 n3 (ix2 a r) = if a.val = 0 then gmP n T h (pt i) r else grP n T h (pt i) r := by
  refine (merge_apply _ _ _ _ _ _ a r).trans ?_
  subst hn
  unfold gmP grP
  simp only [ld14_apply, ld16_apply, h14, h16]
  rfl

/-- A plane stored whole reads as the plane. -/
theorem read_whole (f : v14.ty.Contents (Elt Ideal)) (L : List (View.Piece (Elt Ideal) S128x128 .f32)) (w : FVec Ideal S128x128 .f32) (r l : Fin 128) :
    v14.read (Elt Ideal) (v14.writes (Elt Ideal) f (⟨Rect.unit (s := S128x128) ![0, 0] S128x128.size inb_S128x128_S128x128_0_0, w⟩ :: L)) (ix2 r l) = w (ix2 r l) := by
  have he : (Rect.unit (s := S128x128) ![0, 0] S128x128.size inb_S128x128_S128x128_0_0).emb (ix2 r l) = (ix2 r l : S128x128.Idx) := by
    funext a
    apply Fin.ext
    match a with
    | ⟨0, _⟩ => show 0 + 1 * r.val = r.val; omega
    | ⟨1, _⟩ => show 0 + 1 * l.val = l.val; omega
  refine (congrArg (v14.read (Elt Ideal) _) he.symm).trans ?_
  exact View.read_writes_cons_emb v14 f (Rect.unit (s := S128x128) ![0, 0] S128x128.size inb_S128x128_S128x128_0_0) w L (ix2 r l)

/-- The statistics plane after the merge. -/
theorem st_read (i : grid0.Coords) (X14 : v14.ty.Contents (Elt Ideal)) (X16 : v16.ty.Contents (Elt Ideal)) (h : S128x5120.Idx → EReal)
    (h14 : ∀ y, v14.read (Elt Ideal) X14 y = statI h y) (T : S16x8x128.Idx → EReal) (h16 : ∀ y, v16.read (Elt Ideal) X16 y = T y)
    (n0 n1 n2 n3 : Elt Ideal .f32) (n : Fin 4 → EReal) (hn : n = ![n0, n1, n2, n3])
    (f : v14.ty.Contents (Elt Ideal)) (L : List (View.Piece (Elt Ideal) S128x128 .f32)) (y : S128x128.Idx) :
    v14.read (Elt Ideal) (v14.writes (Elt Ideal) f (⟨Rect.unit (s := S128x128) ![0, 0] S128x128.size inb_S128x128_S128x128_0_0,
      stV (ld14 v14 X14) (ld16 v16 i X16) n0 n1 n2 n3⟩ :: L)) y = stI n T h (pt i) y := by
  obtain ⟨r, l, rfl⟩ : ∃ (r l : Fin 128), y = ix2 r l := ⟨y 0, y 1, eq_ix2 y⟩
  rw [read_whole, stV_apply, mergedV_apply v14 v16 i X14 X16 h h14 T h16 n0 n1 n2 n3 n hn]
  rfl

/-- The table of results after the point. -/
theorem out_read (i : grid0.Coords) (X14 : v14.ty.Contents (Elt Ideal)) (X16 : v16.ty.Contents (Elt Ideal)) (h : S128x5120.Idx → EReal)
    (h14 : ∀ y, v14.read (Elt Ideal) X14 y = statI h y) (T : S16x8x128.Idx → EReal) (h16 : ∀ y, v16.read (Elt Ideal) X16 y = T y)
    (n0 n1 n2 n3 : Elt Ideal .f32) (n : Fin 4 → EReal) (hn : n = ![n0, n1, n2, n3])
    (f : v17.ty.Contents (Elt Ideal)) (y : S16x8x128.Idx) :
    v17.read (Elt Ideal) (v17.writes (Elt Ideal) f [⟨Rect.unit (s := S16x8x128) (k0_off42 i) S1x8x128.size (k0_off42_inb i),
      outV (ld14 v14 X14) (ld16 v16 i X16) n0 n1 n2 n3⟩]) y = outI n T h (pt i) (v17.read (Elt Ideal) f) y := by
  obtain ⟨a, q, r, rfl⟩ : ∃ (a : Fin 16) (q : Fin 8) (r : Fin 128), y = ix3 a q r := ⟨y 0, y 1, y 2, eq_ix3 y⟩
  unfold outI
  by_cases ha : a.val = (pt i).val
  · obtain rfl : a = pt i := Fin.ext ha
    rw [if_pos (show ((ix3 (pt i) q r : S16x8x128.Idx) 0).val = (pt i).val from rfl)]
    have he := emb42 i 0 q r
    refine (congrArg (v17.read (Elt Ideal) _) he.symm).trans ?_
    refine (View.read_writes_cons_emb v17 f (Rect.unit (s := S16x8x128) (k0_off42 i) S1x8x128.size (k0_off42_inb i))
      (outV (ld14 v14 X14) (ld16 v16 i X16) n0 n1 n2 n3) [] (ix3 0 q r)).trans ?_
    rw [outV_apply, mergedV_apply v14 v16 i X14 X16 h h14 T h16 n0 n1 n2 n3 n hn]
    rfl
  · rw [if_neg (show ¬ ((ix3 a q r : S16x8x128.Idx) 0).val = (pt i).val from ha)]
    refine (View.read_writes_cons_miss_of_axis v17 f _ [] (ix3 a q r) (0 : Fin 3) (i 0).val 1 ?_ rfl rfl ?_).trans rfl
    · show k0_off42 i 0 = _; rw [k0_off42_eq]; rfl
    · have : a.val ≠ (i 0).val := ha
      show a.val < (i 0).val ∨ (i 0).val + 1 ≤ a.val
      omega
end

/-- The peer table: rows 0 to 3 of a point are the peers' means of the point's 128 tokens, rows 4 to 7 their sums of squared
    deviations. -/
def tabI (a b : S4x2x1024.Idx → EReal) : S16x8x128.Idx → EReal := fun y =>
  if h : (y 1).val < 4 then a (ix3 (⟨(y 1).val, h⟩ : Fin 4) (⟨(y 0).val / 8, by have : (y 0).val < 16 := (y 0).isLt; omega⟩ : Fin 2) (⟨128 * ((y 0).val % 8) + (y 2).val, by have : (y 2).val < 128 := (y 2).isLt; omega⟩ : Fin 1024))
  else b (ix3 (⟨(y 1).val - 4, by have : (y 1).val < 8 := (y 1).isLt; omega⟩ : Fin 4) (⟨(y 0).val / 8, by have : (y 0).val < 16 := (y 0).isLt; omega⟩ : Fin 2) (⟨128 * ((y 0).val % 8) + (y 2).val, by have : (y 2).val < 128 := (y 2).isLt; omega⟩ : Fin 1024))

theorem tinb (q : Fin 8) (p : Fin 16) : ∀ a, (![p.val, q.val, 0] : Fin 3 → ℕ) a + S1x1x128.size a ≤ S16x8x128.size a := by
  have := q.isLt; have := p.isLt
  intro a; fin_cases a
  · show p.val + 1 ≤ 16; omega
  · show q.val + 1 ≤ 8; omega
  · show 0 + 128 ≤ 128; omega

theorem tinb' (k : Fin 4) (p : Fin 16) : ∀ a, (![k.val, p.val / 8, 128 * (p.val % 8)] : Fin 3 → ℕ) a + S1x1x128.size a ≤ S4x2x1024.size a := by
  have := k.isLt; have := p.isLt
  intro a; fin_cases a
  · show k.val + 1 ≤ 4; omega
  · show p.val / 8 + 1 ≤ 2; omega
  · show 128 * (p.val % 8) + 128 ≤ 1024; omega

/-- One row of the peer table stored: row `q` of point `p`, from row `k` of an argument. -/
def tp {κ : Kind} {sp : Space} (v : View sig κ sp S4x2x1024 .f32) (X : v.ty.Contents (Elt Ideal)) (q : Fin 8) (k : Fin 4) (p : Fin 16) : View.Piece (Elt Ideal) S16x8x128 .f32 :=
  ⟨Rect.unit ![p.val, q.val, 0] S1x1x128.size (tinb q p),
   shapeCast S1x1x128 (shapeCast S1x128 (v.readAt (Elt Ideal) (Rect.unit (s := S4x2x1024) ![k.val, p.val / 8, 128 * (p.val % 8)] S1x1x128.size (tinb' k p)).toLoadRect X) shapeCasts_S1x1x128_S1x128) shapeCasts_S1x128_S1x1x128⟩

theorem tp_apply {κ : Kind} {sp : Space} (v : View sig κ sp S4x2x1024 .f32) (X : v.ty.Contents (Elt Ideal)) (q : Fin 8) (k : Fin 4) (p : Fin 16) (z z' : Fin 1) (r : Fin 128) :
    (tp v X q k p).2 (ix3 z z' r) = v.read (Elt Ideal) X (ix3 k (⟨p.val / 8, by omega⟩ : Fin 2) (⟨128 * (p.val % 8) + r.val, by omega⟩ : Fin 1024)) := by
  have he : (Rect.unit (s := S4x2x1024) ![k.val, p.val / 8, 128 * (p.val % 8)] S1x1x128.size (tinb' k p)).toLoadRect.idx (ix3 0 0 r) = (ix3 k (⟨p.val / 8, by omega⟩ : Fin 2) (⟨128 * (p.val % 8) + r.val, by omega⟩ : Fin 1024) : S4x2x1024.Idx) := by
    funext a
    apply Fin.ext
    match a with
    | ⟨0, _⟩ => show k.val + 1 * 0 = k.val; omega
    | ⟨1, _⟩ => show p.val / 8 + 1 * 0 = p.val / 8; omega
    | ⟨2, _⟩ => show 128 * (p.val % 8) + 1 * r.val = 128 * (p.val % 8) + r.val; omega
  refine Eq.trans ?_ (congrArg (v.read (Elt Ideal) X) he)
  have key : ∀ w : FVec Ideal S1x1x128 .f32, shapeCast S1x1x128 (shapeCast S1x128 w shapeCasts_S1x1x128_S1x128) shapeCasts_S1x128_S1x1x128 (ix3 z z' r) = w (ix3 0 0 r) := by
    intro w
    have hz : z = 0 := Subsingleton.elim _ _
    have hz' : z' = 0 := Subsingleton.elim _ _
    subst hz hz'
    pointwise
  exact key (v.readAt (Elt Ideal) (Rect.unit (s := S4x2x1024) ![k.val, p.val / 8, 128 * (p.val % 8)] S1x1x128.size (tinb' k p)).toLoadRect X)

/-- The points, last first. -/
def down16 : List (Fin 16) := [15, 14, 13, 12, 11, 10, 9, 8, 7, 6, 5, 4, 3, 2, 1, 0]

/-- The stores that fill the peer table, last first. -/
def tabL {κ4 κ5 : Kind} {sp4 sp5 : Space} (v4 : View sig κ4 sp4 S4x2x1024 .f32) (v5 : View sig κ5 sp5 S4x2x1024 .f32)
    (X4 : v4.ty.Contents (Elt Ideal)) (X5 : v5.ty.Contents (Elt Ideal)) : List (View.Piece (Elt Ideal) S16x8x128 .f32) :=
  down16.flatMap fun p => [tp v5 X5 7 3 p, tp v4 X4 3 3 p, tp v5 X5 6 2 p, tp v4 X4 2 2 p, tp v5 X5 5 1 p, tp v4 X4 1 1 p, tp v5 X5 4 0 p, tp v4 X4 0 0 p]

theorem emb_tp (q : Fin 8) (p : Fin 16) (z z' : Fin 1) (r : Fin 128) :
    (Rect.unit (s := S16x8x128) ![p.val, q.val, 0] S1x1x128.size (tinb q p)).emb (ix3 z z' r) = (ix3 p q r : S16x8x128.Idx) := by
  funext a
  apply Fin.ext
  match a with
  | ⟨0, _⟩ => show p.val + 1 * z.val = p.val; omega
  | ⟨1, _⟩ => show q.val + 1 * z'.val = q.val; omega
  | ⟨2, _⟩ => show 0 + 1 * r.val = r.val; omega

/-- The filled table reads as the peer table. -/
theorem tab_read {κ4 κ5 κ16 : Kind} {sp4 sp5 sp16 : Space} (v4 : View sig κ4 sp4 S4x2x1024 .f32) (v5 : View sig κ5 sp5 S4x2x1024 .f32)
    (v16 : View sig κ16 sp16 S16x8x128 .f32)
    (X4 : v4.ty.Contents (Elt Ideal)) (X5 : v5.ty.Contents (Elt Ideal)) (f : v16.ty.Contents (Elt Ideal)) (y : S16x8x128.Idx) :
    v16.read (Elt Ideal) (v16.writes (Elt Ideal) f (tabL v4 v5 X4 X5)) y = tabI (v4.read (Elt Ideal) X4) (v5.read (Elt Ideal) X5) y := by
  have lo : ∀ (k : Fin 4) (q : Fin 8) (p : Fin 16) (hq : q.val = k.val) (x : S1x1x128.Idx),
      (tp v4 X4 q k p).2 x = tabI (v4.read (Elt Ideal) X4) (v5.read (Elt Ideal) X5) ((tp v4 X4 q k p).1.emb x) := by
    intro k q p hq x
    obtain ⟨z, z', r, rfl⟩ : ∃ (z z' : Fin 1) (r : Fin 128), x = ix3 z z' r := ⟨x 0, x 1, x 2, eq_ix3 x⟩
    refine (tp_apply v4 X4 q k p z z' r).trans ?_
    refine Eq.trans ?_ (congrArg (tabI (v4.read (Elt Ideal) X4) (v5.read (Elt Ideal) X5)) (emb_tp q p z z' r)).symm
    have hk := k.isLt
    unfold tabI
    rw [dif_pos (show ((ix3 p q r : S16x8x128.Idx) 1).val < 4 by show q.val < 4; omega)]
    exact congrArg (v4.read (Elt Ideal) X4) (congrArg (fun k' : Fin 4 => (ix3 k' _ _ : S4x2x1024.Idx)) (Fin.ext hq.symm))
  have hi : ∀ (k : Fin 4) (q : Fin 8) (p : Fin 16) (hq : q.val = k.val + 4) (x : S1x1x128.Idx),
      (tp v5 X5 q k p).2 x = tabI (v4.read (Elt Ideal) X4) (v5.read (Elt Ideal) X5) ((tp v5 X5 q k p).1.emb x) := by
    intro k q p hq x
    obtain ⟨z, z', r, rfl⟩ : ∃ (z z' : Fin 1) (r : Fin 128), x = ix3 z z' r := ⟨x 0, x 1, x 2, eq_ix3 x⟩
    refine (tp_apply v5 X5 q k p z z' r).trans ?_
    refine Eq.trans ?_ (congrArg (tabI (v4.read (Elt Ideal) X4) (v5.read (Elt Ideal) X5)) (emb_tp q p z z' r)).symm
    have hk := k.isLt
    unfold tabI
    rw [dif_neg (show ¬ ((ix3 p q r : S16x8x128.Idx) 1).val < 4 by show ¬ q.val < 4; omega)]
    exact congrArg (v5.read (Elt Ideal) X5) (congrArg (fun k' : Fin 4 => (ix3 k' _ _ : S4x2x1024.Idx)) (Fin.ext (by show k.val = q.val - 4; omega)))
  refine View.read_writes_apply_of_pieces v16 f (tabI (v4.read (Elt Ideal) X4) (v5.read (Elt Ideal) X5)) _ ?_ y ?_
  · intro p hp x
    obtain ⟨ρ, _, h⟩ := List.mem_flatMap.1 hp
    simp only [List.mem_cons, List.mem_nil_iff, _root_.or_false] at h
    rcases h with rfl | rfl | rfl | rfl | rfl | rfl | rfl | rfl
    · exact hi _ _ _ rfl x
    · exact lo _ _ _ rfl x
    · exact hi _ _ _ rfl x
    · exact lo _ _ _ rfl x
    · exact hi _ _ _ rfl x
    · exact lo _ _ _ rfl x
    · exact hi _ _ _ rfl x
    · exact lo _ _ _ rfl x
  · obtain ⟨p, q, r, rfl⟩ : ∃ (p : Fin 16) (q : Fin 8) (r : Fin 128), y = ix3 p q r := ⟨y 0, y 1, y 2, eq_ix3 y⟩
    have hm : p ∈ down16 := by revert p; decide
    have hset : ∀ {κ : Kind} {sp : Space} (v : View sig κ sp S4x2x1024 .f32) (X : v.ty.Contents (Elt Ideal)) (k : Fin 4), (ix3 p q r : S16x8x128.Idx) ∈ (tp v X q k p).1.set := by
      intro κ sp v X k
      have := (Rect.unit (s := S16x8x128) ![p.val, q.val, 0] S1x1x128.size (tinb q p)).toLoadRect.idx_mem (ix3 0 0 r)
      rw [show (Rect.unit (s := S16x8x128) ![p.val, q.val, 0] S1x1x128.size (tinb q p)).toLoadRect.idx (ix3 0 0 r) = (ix3 p q r : S16x8x128.Idx) from emb_tp q p 0 0 r] at this
      exact this
    have hsel : ∃ P ∈ [tp v5 X5 7 3 p, tp v4 X4 3 3 p, tp v5 X5 6 2 p, tp v4 X4 2 2 p, tp v5 X5 5 1 p, tp v4 X4 1 1 p, tp v5 X5 4 0 p, tp v4 X4 0 0 p], (ix3 p q r : S16x8x128.Idx) ∈ P.1.set := by
      fin_cases q
      · exact ⟨tp v4 X4 0 0 p, by simp, hset v4 X4 0⟩
      · exact ⟨tp v4 X4 1 1 p, by simp, hset v4 X4 1⟩
      · exact ⟨tp v4 X4 2 2 p, by simp, hset v4 X4 2⟩
      · exact ⟨tp v4 X4 3 3 p, by simp, hset v4 X4 3⟩
      · exact ⟨tp v5 X5 4 0 p, by simp, hset v5 X5 0⟩
      · exact ⟨tp v5 X5 5 1 p, by simp, hset v5 X5 1⟩
      · exact ⟨tp v5 X5 6 2 p, by simp, hset v5 X5 2⟩
      · exact ⟨tp v5 X5 7 3 p, by simp, hset v5 X5 3⟩
    obtain ⟨P, hP, hy⟩ := hsel
    exact ⟨P, List.mem_flatMap.2 ⟨p, hm, hP⟩, hy⟩

theorem oinb (p : Fin 16) : ∀ a, (![p.val / 8, 128 * (p.val % 8)] : Fin 2 → ℕ) a + S1x128.size a ≤ S2x1024.size a := by
  have := p.isLt
  intro a; fin_cases a
  · show p.val / 8 + 1 ≤ 2; omega
  · show 128 * (p.val % 8) + 128 ≤ 1024; omega

/-- One row of the table of results stored in a result: row `q` of point `p`. -/
def op {κ : Kind} {sp : Space} (v : View sig κ sp S16x8x128 .f32) (X : v.ty.Contents (Elt Ideal)) (q : Fin 8) (p : Fin 16) : View.Piece (Elt Ideal) S2x1024 .f32 :=
  ⟨Rect.unit ![p.val / 8, 128 * (p.val % 8)] S1x128.size (oinb p),
   shapeCast S1x128 (v.readAt (Elt Ideal) (Rect.unit (s := S16x8x128) ![p.val, q.val, 0] S1x1x128.size (tinb q p)).toLoadRect X) shapeCasts_S1x1x128_S1x128⟩

/-- A result row by row: batch `b`, token `t` is lane `t mod 128` of point `8 b + t / 128`. -/
def resI (d : S16x8x128.Idx → EReal) (q : Fin 8) : S2x1024.Idx → EReal := fun y =>
  d (ix3 (⟨8 * (y 0).val + (y 1).val / 128, by have : (y 0).val < 2 := (y 0).isLt; have : (y 1).val < 1024 := (y 1).isLt; omega⟩ : Fin 16) q
    (⟨(y 1).val % 128, by omega⟩ : Fin 128))

/-- The stores that fill a result from the table of results. -/
def resL {κ : Kind} {sp : Space} (v : View sig κ sp S16x8x128 .f32) (X : v.ty.Contents (Elt Ideal)) (q : Fin 8) : List (View.Piece (Elt Ideal) S2x1024 .f32) :=
  down16.map (op v X q)

theorem res_read {κ κ' : Kind} {sp sp' : Space} (v : View sig κ sp S16x8x128 .f32) (X : v.ty.Contents (Elt Ideal)) (q : Fin 8)
    (v' : View sig κ' sp' S2x1024 .f32) (f : v'.ty.Contents (Elt Ideal)) (y : S2x1024.Idx) :
    v'.read (Elt Ideal) (v'.writes (Elt Ideal) f (resL v X q)) y = resI (v.read (Elt Ideal) X) q y := by
  refine View.read_writes_apply_of_pieces v' f (resI (v.read (Elt Ideal) X) q) _ ?_ y ?_
  · intro P hP x
    obtain ⟨p, _, rfl⟩ := List.mem_map.1 hP
    obtain ⟨z, r, rfl⟩ : ∃ (z : Fin 1) (r : Fin 128), x = ix2 z r := ⟨x 0, x 1, eq_ix2 x⟩
    have hp := p.isLt
    have he : (op v X q p).1.emb (ix2 z r) = (ix2 (⟨p.val / 8, by omega⟩ : Fin 2) (⟨128 * (p.val % 8) + r.val, by omega⟩ : Fin 1024) : S2x1024.Idx) := by
      funext a
      apply Fin.ext
      match a with
      | ⟨0, _⟩ => show p.val / 8 + 1 * z.val = p.val / 8; omega
      | ⟨1, _⟩ => show 128 * (p.val % 8) + 1 * r.val = 128 * (p.val % 8) + r.val; omega
    rw [he]
    have key : ∀ w : FVec Ideal S1x1x128 .f32, shapeCast S1x128 w shapeCasts_S1x1x128_S1x128 (ix2 z r) = w (ix3 0 0 r) := by
      intro w
      have hz : z = 0 := Subsingleton.elim _ _
      subst hz
      pointwise
    refine (key (v.readAt (Elt Ideal) (Rect.unit (s := S16x8x128) ![p.val, q.val, 0] S1x1x128.size (tinb q p)).toLoadRect X)).trans ?_
    refine (congrArg (v.read (Elt Ideal) X) (emb_tp q p 0 0 r)).trans ?_
    unfold resI
    congr 1
    have hr := r.isLt
    congr 1
    · apply Fin.ext; show p.val = 8 * (p.val / 8) + (128 * (p.val % 8) + r.val) / 128; omega
    · apply Fin.ext; show r.val = (128 * (p.val % 8) + r.val) % 128; omega
  · have h0 : (y 0).val < 2 := (y 0).isLt
    have h1 : (y 1).val < 1024 := (y 1).isLt
    have hm : ∀ p : Fin 16, p ∈ down16 := by decide
    refine ⟨_, List.mem_map.2 ⟨⟨8 * (y 0).val + (y 1).val / 128, by omega⟩, hm _, rfl⟩, ?_⟩
    unfold op
    rw [Rect.mem_set_unit]
    intro a
    match a with
    | ⟨0, _⟩ => show (8 * (y 0).val + (y 1).val / 128) / 8 ≤ (y 0).val ∧ (y 0).val < (8 * (y 0).val + (y 1).val / 128) / 8 + 1; omega
    | ⟨1, _⟩ => show 128 * ((8 * (y 0).val + (y 1).val / 128) % 8) ≤ (y 1).val ∧ (y 1).val < 128 * ((8 * (y 0).val + (y 1).val / 128) % 8) + 128; omega

theorem cnt_read {κ : Kind} {sp : Space} (v : View sig κ sp S4 .f32) (f : v.ty.Contents (Elt Ideal)) (k : Fin 4) (hk : ∀ a, (![k.val] : Fin 1 → ℕ) a + S1.size a ≤ S4.size a)
    (hp : 0 < S1.numel) :
    v.readAt (Elt Ideal) (Rect.unit (s := S4) ![k.val] S1.size hk).toLoadRect f (Shape.Idx.first hp) = v.read (Elt Ideal) f (ix1 k) := by
  refine congrArg (v.read (Elt Ideal) f) ?_
  funext a
  apply Fin.ext
  match a with
  | ⟨0, _⟩ =>
    have : (Shape.Idx.first hp (0 : Fin 1)).val < 1 := (Shape.Idx.first hp (0 : Fin 1)).isLt
    show k.val + 1 * (Shape.Idx.first hp (0 : Fin 1)).val = k.val; omega

theorem nOf_eq {κ : Kind} {sp : Space} (v : View sig κ sp S4 .f32) (f : v.ty.Contents (Elt Ideal)) (h0 h1 h2 h3) (p0 p1 p2 p3 : 0 < S1.numel) :
    nOf (v.read (Elt Ideal) f) = ![v.readAt (Elt Ideal) (Rect.unit (s := S4) ![0] S1.size h0).toLoadRect f (Shape.Idx.first p0),
      v.readAt (Elt Ideal) (Rect.unit (s := S4) ![1] S1.size h1).toLoadRect f (Shape.Idx.first p1),
      v.readAt (Elt Ideal) (Rect.unit (s := S4) ![2] S1.size h2).toLoadRect f (Shape.Idx.first p2),
      v.readAt (Elt Ideal) (Rect.unit (s := S4) ![3] S1.size h3).toLoadRect f (Shape.Idx.first p3)] := by
  funext k
  fin_cases k
  · exact (cnt_read v f 0 h0 p0).symm
  · exact (cnt_read v f 1 h1 p1).symm
  · exact (cnt_read v f 2 h2 p2).symm
  · exact (cnt_read v f 3 h3 p3).symm

/-- The rescaled rows of a point. -/
def ptY (n : Fin 4 → EReal) (T : S16x8x128.Idx → EReal) (x res : S128x5120.Idx → EReal) (g b : S1x5120.Idx → EReal) (i : Fin 16) : S128x5120.Idx → EReal :=
  yI (stI n T (hI x res) i) (hI x res) g b

/-- The codes of the rescaled rows. -/
def codesI (Y : S128x5120.Idx → EReal) : S128x5120.Idx → EReal := qI Y (amaxI Y)

/-- The scales of the rescaled rows. -/
def scalesI (Y : S128x5120.Idx → EReal) : S128x40.Idx → EReal := fun y => scaleI (amaxI Y (y 0) (y 1))

theorem yI_congr {st st' : S128x128.Idx → EReal} {h h' : S128x5120.Idx → EReal} (g b : S1x5120.Idx → EReal) (hst : ∀ y, st y = st' y) (hh : ∀ y, h y = h' y) :
    yI st h g b = yI st' h' g b := by
  obtain rfl : st = st' := funext hst
  obtain rfl : h = h' := funext hh
  rfl

theorem codes_congr {Y13 : S128x5120.Idx → EReal} {p15 : S128x128.Idx → EReal} {Y : S128x5120.Idx → EReal} (h13 : ∀ y, Y13 y = Y y)
    (h15 : ∀ (y : S128x128.Idx) (hy : (y 1).val < 40), p15 y = amaxI Y (y 0) ⟨(y 1).val, hy⟩) (y : S128x5120.Idx) : qI Y13 (amOf p15) y = codesI Y y := by
  obtain rfl : Y13 = Y := funext h13
  have : amOf p15 = amaxI Y13 := by
    funext r j
    exact h15 (ix2 r (⟨j.val, by omega⟩ : Fin 128)) j.isLt
  rw [this]
  rfl

theorem scales_congr {p15 : S128x128.Idx → EReal} {Y : S128x5120.Idx → EReal}
    (h15 : ∀ (y : S128x128.Idx) (hy : (y 1).val < 40), p15 y = amaxI Y (y 0) ⟨(y 1).val, hy⟩) (y : S128x40.Idx) : scaleI (amOf p15 (y 0) (y 1)) = scalesI Y y :=
  congrArg scaleI (h15 (ix2 (y 0) (⟨(y 1).val, by have : (y 1).val < 40 := (y 1).isLt; omega⟩ : Fin 128)) (y 1).isLt)

end Cert.KernelIdeal.Val
-- ==== Proof.Trip1.lean ====
/-
  One trip of the first loop of `KernelIdeal`: the list of stores it makes, in closed form.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import proofs.«01_k».proof.Proof.Spec

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row of chunk `k` of the first loop. -/
def ro1 (k : Fin k0_t1_loop.trips) : ℕ := k0_off1 k 0

theorem ro1_eq : ∀ k : Fin k0_t1_loop.trips, ro1 k = 32 * k.val := by decide +kernel

theorem ro1_le (k : Fin k0_t1_loop.trips) : ro1 k + 32 ≤ 128 := by
  rw [ro1_eq]; have h := k.isLt; have h4 : k0_t1_loop.trips ≤ 4 := k0_t1_abs.2.1; omega

/-- The stores of chunk `k` of the first loop: the residual sum of every lane block, and the chunk of the statistics plane. -/
def h1  {κ2 κ3 : Kind} {sp2 sp3 : Space} (v2 : View sig κ2 sp2 S128x5120 .bf16) (v3 : View sig κ3 sp3 S128x5120 .bf16)
    (X2 : v2.ty.Contents (Elt F)) (X3 : v3.ty.Contents (Elt F)) (k : Fin k0_t1_loop.trips) (j : Fin 40) : FVec F S32x128 .bf16 :=
  hpay (v2.readAt (Elt F) (blkR (ro1 k) (ro1_le k) j).toLoadRect X2) (v3.readAt (Elt F) (blkR (ro1 k) (ro1_le k) j).toLoadRect X3)

/-- The stores of the residual sums of chunk `k`. -/
def hL1 {κ2 κ3 : Kind} {sp2 sp3 : Space} (v2 : View sig κ2 sp2 S128x5120 .bf16) (v3 : View sig κ3 sp3 S128x5120 .bf16)
    (X2 : v2.ty.Contents (Elt F)) (X3 : v3.ty.Contents (Elt F)) (k : Fin k0_t1_loop.trips) : List (View.Piece (Elt F) S128x5120 .bf16) :=
  down40.map fun j => ⟨blkR (ro1 k) (ro1_le k) j, h1 v2 v3 X2 X3 k j⟩

set_option maxHeartbeats 4000000 in
set_option maxRecDepth 65536 in
theorem trip1_eq (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X2 : arg2.view.ty.Contents (Elt F))(X3 : arg3.view.ty.Contents (Elt F)) (G12 : arg12.view.ty.Contents (Elt F)) (G14 : arg14.view.ty.Contents (Elt F)) (k : Fin k0_t1_loop.trips) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 k G12 G14 =
      (hL1 arg2.view arg3.view X2 X3 k,
       [⟨Rect.unit (k0_off41 k) S32x128.size (k0_off41_inb k), statV (meanV (h1 arg2.view arg3.view X2 X3 k))
          (m2V (meanV (h1 arg2.view arg3.view X2 X3 k)) fun j => arg12.view.readCov (hL1 arg2.view arg3.view X2 X3 k) (blkR (ro1 k) (ro1_le k) j).toLoadRect)⟩]) := by
  unfold tripL_k0_t1 trip_k0_t1; dsimp only
  rfl

end Cert.KernelIdeal.Val
-- ==== Proof.LoopVal1.lean ====
/-
  What the first loop of `KernelIdeal` leaves behind, on extended reals.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import Idealize.ShloMosaic.Lib.Pointwise
public import proofs.«01_k».proof.Proof.Spec2
public import proofs.«01_k».proof.Proof.Trip1

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem trips1 : k0_t1_loop.trips = 4 := by decide +kernel

/-- The pieces the first loop writes over the residual sum. -/
theorem mem1_12 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X2 : arg2.view.ty.Contents (Elt Ideal)) (X3 : arg3.view.ty.Contents (Elt Ideal)) (G12 : arg12.view.ty.Contents (Elt Ideal)) (G14 : arg14.view.ty.Contents (Elt Ideal)) (p : View.Piece (Elt Ideal) S128x5120 .bf16) :
    p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 G12 G14 k0_t1_loop.trips).1 ↔ ∃ k, p ∈ hL1 (F := Ideal) arg2.view arg3.view X2 X3 k := by
  refine mem_grow (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 G12 G14 n).1) _ rfl (fun k => ?_) p
  show (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 G12 G14 (k.val + 1)).1 = _
  rw [pb_k0_t1_succ, trip1_eq]

/-- The pieces the first loop writes over the statistics plane. -/
theorem mem1_14 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X2 : arg2.view.ty.Contents (Elt Ideal)) (X3 : arg3.view.ty.Contents (Elt Ideal)) (G12 : arg12.view.ty.Contents (Elt Ideal)) (G14 : arg14.view.ty.Contents (Elt Ideal)) (p : View.Piece (Elt Ideal) S128x128 .f32) :
    p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 G12 G14 k0_t1_loop.trips).2 ↔ ∃ k, p ∈ [(⟨Rect.unit (k0_off41 k) S32x128.size (k0_off41_inb k), statV (meanV (h1 (F := Ideal) arg2.view arg3.view X2 X3 k))
          (m2V (meanV (h1 (F := Ideal) arg2.view arg3.view X2 X3 k)) fun j => arg12.view.readCov (hL1 (F := Ideal) arg2.view arg3.view X2 X3 k) (blkR (ro1 k) (ro1_le k) j).toLoadRect)⟩ : View.Piece (Elt Ideal) S128x128 .f32)] := by
  refine mem_grow (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 G12 G14 n).2) _ rfl (fun k => ?_) p
  show (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 G12 G14 (k.val + 1)).2 = _
  rw [pb_k0_t1_succ, trip1_eq]

theorem hpay_apply (a b : FVec Ideal S32x128 .bf16) (x : S32x128.Idx) : hpay a b x = (a x + b x : EReal) := by
  unfold hpay
  rw [shapeCast_id, shapeCast_id]
  rfl

/-- One block of the residual sum is the residual sum at the block's places. -/
theorem h1_apply {κ2 κ3 : Kind} {sp2 sp3 : Space} (v2 : View sig κ2 sp2 S128x5120 .bf16) (v3 : View sig κ3 sp3 S128x5120 .bf16)
    (X2 : v2.ty.Contents (Elt Ideal)) (X3 : v3.ty.Contents (Elt Ideal)) (k : Fin k0_t1_loop.trips) (j : Fin 40) (x : S32x128.Idx) :
    h1 v2 v3 X2 X3 k j x = hI (v2.read (Elt Ideal) X2) (v3.read (Elt Ideal) X3) ((blkR (ro1 k) (ro1_le k) j).emb x) := by
  exact hpay_apply _ _ x

/-- After the first loop the residual plane holds the residual sum. -/
theorem t1_12 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X2 : arg2.view.ty.Contents (Elt Ideal)) (X3 : arg3.view.ty.Contents (Elt Ideal)) (G12 : arg12.view.ty.Contents (Elt Ideal)) (G14 : arg14.view.ty.Contents (Elt Ideal)) (y : S128x5120.Idx) :
    arg12.view.read (Elt Ideal) (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 G12 G14 k0_t1_loop.trips).1) y = hI (arg2.view.read (Elt Ideal) X2) (arg3.view.read (Elt Ideal) X3) y :=
  read_blocks (F := Ideal) arg12.view G12 _ (le_of_eq trips1.symm) ro1 ro1_eq ro1_le (h1 arg2.view arg3.view X2 X3)
    (mem1_12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 G12 G14) _ (h1_apply arg2.view arg3.view X2 X3) y

theorem emb0 (o : ℕ) (h : o + 32 ≤ 128) (j : Fin 40) (r : Fin 32) (l : Fin 128) :
    (blkR o h j).emb (ix2 r l) = (ix2 (⟨o + r.val, by omega⟩ : Fin 128) (lane j l) : S128x5120.Idx) := by
  funext a
  match a with
  | ⟨0, _⟩ => apply Fin.ext; show o + 1 * r.val = o + r.val; omega
  | ⟨1, _⟩ => apply Fin.ext; show 128 * j.val + 1 * l.val = 128 * j.val + l.val; omega

/-- The chunk's row means are the row means. -/
theorem meanV_apply (o : ℕ) (ho : o + 32 ≤ 128) (h : S128x5120.Idx → EReal) (blk : Fin 40 → FVec Ideal S32x128 .bf16)
    (hb : ∀ j x, blk j x = h ((blkR o ho j).emb x)) (r : Fin 32) :
    meanV (F := Ideal) blk (ix2 r 0) = muI h ⟨o + r.val, by omega⟩ := by
  unfold meanV muI
  pointwise [foldl_addf, hb, emb0]
  rw [← sum_lanes]

/-- The chunk's row sums of squared deviations. -/
theorem m2V_apply (o : ℕ) (ho : o + 32 ≤ 128) (h : S128x5120.Idx → EReal) (mean : FVec Ideal S32x1 .f32) (ld : Fin 40 → Vec Ideal S32x128 .bf16)
    (hm : ∀ r : Fin 32, mean (ix2 r 0) = muI h ⟨o + r.val, by omega⟩)
    (hb : ∀ j x, ld j x = h ((blkR o ho j).emb x)) (r : Fin 32) :
    m2V (F := Ideal) mean ld (ix2 r 0) = m2I h ⟨o + r.val, by omega⟩ := by
  unfold m2V m2I
  pointwise [foldl_addf, devV, hb, emb0, hm]
  rw [← sum_lanes]

/-- The chunk of the statistics plane. -/
theorem statV_apply (o : ℕ) (ho : o + 32 ≤ 128) (h : S128x5120.Idx → EReal) (mean m2 : FVec Ideal S32x1 .f32)
    (hm : ∀ r : Fin 32, mean (ix2 r 0) = muI h ⟨o + r.val, by omega⟩)
    (h2 : ∀ r : Fin 32, m2 (ix2 r 0) = m2I h ⟨o + r.val, by omega⟩) (r : Fin 32) (l : Fin 128) :
    statV (F := Ideal) mean m2 (ix2 r l) = statI h (ix2 (⟨o + r.val, by omega⟩ : Fin 128) l) := by
  unfold statV statI
  pointwise [hm, h2]
  have hc : ∀ l : Fin 128, IntOp.cmpi .eq (BitVec.ofNat 32 l.val) 0#32 = if l.val = 0 then 1#1 else 0#1 := by decide
  rw [hc]
  by_cases hl : l.val = 0
  · rw [if_pos hl, if_pos hl]; rfl
  · rw [if_neg hl, if_neg hl]; rfl

/-- The places of a chunk of the statistics plane. -/
theorem emb41 (k : Fin k0_t1_loop.trips) (r : Fin 32) (l : Fin 128) :
    (Rect.unit (s := S128x128) (k0_off41 k) S32x128.size (k0_off41_inb k)).emb (ix2 r l) = (ix2 (⟨ro1 k + r.val, by have := ro1_le k; omega⟩ : Fin 128) l : S128x128.Idx) := by
  funext a
  apply Fin.ext
  show k0_off41 k a + 1 * (ix2 r l a : ℕ) = _
  match a with
  | ⟨0, _⟩ => show ro1 k + 1 * r.val = ro1 k + r.val; omega
  | ⟨1, _⟩ => rw [k0_off41_eq]; show 0 + 1 * l.val = l.val; omega

/-- After the first loop the statistics plane holds the row statistics of the residual sum. -/
theorem t1_14 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X2 : arg2.view.ty.Contents (Elt Ideal)) (X3 : arg3.view.ty.Contents (Elt Ideal)) (G12 : arg12.view.ty.Contents (Elt Ideal)) (G14 : arg14.view.ty.Contents (Elt Ideal)) (y : S128x128.Idx) :
    arg14.view.read (Elt Ideal) (arg14.view.writes (Elt Ideal) G14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 G12 G14 k0_t1_loop.trips).2) y = statI (hI (arg2.view.read (Elt Ideal) X2) (arg3.view.read (Elt Ideal) X3)) y := by
  refine View.read_writes_apply_of_pieces arg14.view G14 (statI (hI (arg2.view.read (Elt Ideal) X2) (arg3.view.read (Elt Ideal) X3))) _ ?_ y ?_
  · intro p hp x
    obtain ⟨k, hk⟩ := (mem1_14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 G12 G14 p).1 hp
    rw [List.mem_singleton] at hk
    subst hk
    obtain ⟨r, l, rfl⟩ : ∃ (r : Fin 32) (l : Fin 128), x = ix2 r l := ⟨x 0, x 1, eq_ix2 x⟩
    refine Eq.trans ?_ (congrArg (statI (hI (arg2.view.read (Elt Ideal) X2) (arg3.view.read (Elt Ideal) X3))) (emb41 k r l)).symm
    refine statV_apply (ro1 k) (ro1_le k) _ _ _ (fun r => meanV_apply _ (ro1_le k) _ _ (h1_apply arg2.view arg3.view X2 X3 k) r) (fun r => ?_) r l
    refine m2V_apply _ (ro1_le k) _ _ _ (fun r => meanV_apply _ (ro1_le k) _ _ (h1_apply arg2.view arg3.view X2 X3 k) r) (fun j x => ?_) r
    rw [← h1_apply]
    exact readCov_blocks (F := Ideal) arg12.view (ro1 k) (ro1_le k) _ _ (h1_apply arg2.view arg3.view X2 X3 k) j x
  · have h0 : (y 0).val < 128 := (y 0).isLt
    have h1 : (y 1).val < 128 := (y 1).isLt
    refine ⟨_, (mem1_14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 G12 G14 _).2 ⟨⟨(y 0).val / 32, by rw [trips1]; omega⟩, List.mem_singleton.2 rfl⟩, ?_⟩
    rw [Rect.mem_set_unit]
    intro a
    rw [k0_off41_eq]
    match a with
    | ⟨0, _⟩ => show 32 * ((y 0).val / 32) ≤ (y 0).val ∧ (y 0).val < 32 * ((y 0).val / 32) + 32; omega
    | ⟨1, _⟩ => show 0 ≤ (y 1).val ∧ (y 1).val < 0 + 128; omega

end Cert.KernelIdeal.Val
-- ==== Proof.Trip2.lean ====
/-
  One trip of the second loop of `KernelIdeal`: the list of stores it makes, in closed form.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import proofs.«01_k».proof.Proof.Spec

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row of chunk `k` of the second loop. -/
def ro2 (k : Fin k0_t2_loop.trips) : ℕ := k0_off44 k 0

theorem ro2_eq : ∀ k : Fin k0_t2_loop.trips, ro2 k = 32 * k.val := by decide +kernel

theorem ro2_le (k : Fin k0_t2_loop.trips) : ro2 k + 32 ≤ 128 := by
  rw [ro2_eq]; have h := k.isLt; have h4 : k0_t2_loop.trips ≤ 4 := k0_t2_abs.2.1; omega

/-- Column `j` of the plane of maxima, at the rows of a chunk, lies inside it. -/
theorem colinb {o : ℕ} (h : o + 32 ≤ 128) (j : Fin 40) :
    ∀ a, (![o, j.val] : Fin 2 → ℕ) a + S32x1.size a ≤ S128x128.size a := by
  have := j.isLt
  intro a; fin_cases a
  · exact h
  · show j.val + 1 ≤ 128; omega

/-- The normalised block `j` of chunk `k`. -/
def y2 {κ6 κ7 κ12 κ14 : Kind} {sp6 sp7 sp12 sp14 : Space} (v6 : View sig κ6 sp6 S1x5120 .f32) (v7 : View sig κ7 sp7 S1x5120 .f32)
    (v12 : View sig κ12 sp12 S128x5120 .bf16) (v14 : View sig κ14 sp14 S128x128 .f32)
    (X6 : v6.ty.Contents (Elt F)) (X7 : v7.ty.Contents (Elt F)) (X12 : v12.ty.Contents (Elt F)) (X14 : v14.ty.Contents (Elt F))
    (k : Fin k0_t2_loop.trips) (j : Fin 40) : FVec F S32x128 .f32 :=
  yV (v14.readAt (Elt F) (Rect.unit (s := S128x128) (k0_off43 k) S32x128.size (k0_off43_inb k)).toLoadRect X14)
    (v12.readAt (Elt F) (blkR (ro2 k) (ro2_le k) j).toLoadRect X12)
    (v6.readAt (Elt F) (rowR j).toLoadRect X6) (v7.readAt (Elt F) (rowR j).toLoadRect X7)

set_option maxHeartbeats 4000000 in
set_option maxRecDepth 65536 in
theorem trip2_eq (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X6 : arg6.view.ty.Contents (Elt F))(X7 : arg7.view.ty.Contents (Elt F))(X12 : arg12.view.ty.Contents (Elt F))(X14 : arg14.view.ty.Contents (Elt F)) (k : Fin k0_t2_loop.trips) :
    tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 k =
      (down40.map (fun j => (⟨blkR (ro2 k) (ro2_le k) j,
          shapeCast S32x128 (y2 arg6.view arg7.view arg12.view arg14.view X6 X7 X12 X14 k j) shapeCasts_S32x128_S32x128⟩ : View.Piece (Elt F) S128x5120 .f32)),
       down40.map (fun j => (⟨Rect.unit ![ro2 k, j.val] S32x1.size (colinb (ro2_le k) j),
          amaxV (y2 arg6.view arg7.view arg12.view arg14.view X6 X7 X12 X14 k j)⟩ : View.Piece (Elt F) S128x128 .f32))) := by
  unfold tripL_k0_t2 trip_k0_t2; dsimp only
  refine Prod.ext ?_ ?_
  · dsimp only; unfold down40; simp only [List.map]
    iterate 40 (refine congrArg₂ List.cons ?_ ?_; · rfl)
    rfl
  · dsimp only; unfold down40; simp only [List.map]
    iterate 40 (refine congrArg₂ List.cons ?_ ?_; · rfl)
    rfl

end Cert.KernelIdeal.Val
-- ==== Proof.LoopVal2.lean ====
/-
  What the second loop of `KernelIdeal` leaves behind, on extended reals.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import Idealize.ShloMosaic.Lib.Pointwise
public import proofs.«01_k».proof.Proof.Spec2
public import proofs.«01_k».proof.Proof.Trip2

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem trips2 : k0_t2_loop.trips = 4 := by decide +kernel

/-- The pieces the second loop writes over the normalised plane. -/
theorem mem2_13 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X6 : arg6.view.ty.Contents (Elt Ideal)) (X7 : arg7.view.ty.Contents (Elt Ideal)) (X12 : arg12.view.ty.Contents (Elt Ideal)) (X14 : arg14.view.ty.Contents (Elt Ideal)) (p : View.Piece (Elt Ideal) S128x5120 .f32) :
    p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 k0_t2_loop.trips).1 ↔ ∃ k, p ∈ down40.map fun j => (⟨blkR (ro2 k) (ro2_le k) j, shapeCast S32x128 (y2 (F := Ideal) arg6.view arg7.view arg12.view arg14.view X6 X7 X12 X14 k j) shapeCasts_S32x128_S32x128⟩ : View.Piece (Elt Ideal) S128x5120 .f32) := by
  refine mem_grow (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 n).1) _ rfl (fun k => ?_) p
  show (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 (k.val + 1)).1 = _
  rw [pb_k0_t2_succ, trip2_eq]

/-- The pieces the second loop writes over the plane of maxima. -/
theorem mem2_15 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X6 : arg6.view.ty.Contents (Elt Ideal)) (X7 : arg7.view.ty.Contents (Elt Ideal)) (X12 : arg12.view.ty.Contents (Elt Ideal)) (X14 : arg14.view.ty.Contents (Elt Ideal)) (p : View.Piece (Elt Ideal) S128x128 .f32) :
    p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 k0_t2_loop.trips).2 ↔ ∃ k, p ∈ down40.map fun j => (⟨Rect.unit ![ro2 k, j.val] S32x1.size (colinb (ro2_le k) j), amaxV (y2 (F := Ideal) arg6.view arg7.view arg12.view arg14.view X6 X7 X12 X14 k j)⟩ : View.Piece (Elt Ideal) S128x128 .f32) := by
  refine mem_grow (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 n).2) _ rfl (fun k => ?_) p
  show (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 (k.val + 1)).2 = _
  rw [pb_k0_t2_succ, trip2_eq]

theorem yV_apply (st : FVec Ideal S32x128 .f32) (ld : FVec Ideal S32x128 .bf16) (g b : FVec Ideal S1x128 .f32) (r : Fin 32) (l : Fin 128) :
    yV (F := Ideal) st ld g b (ix2 r l) = ((ld (ix2 r l) - st (ix2 r 0)) * st (ix2 r 1) * g (ix2 0 l) + b (ix2 0 l) : EReal) := by
  unfold yV devV
  pointwise

theorem amaxV_apply (y : FVec Ideal S32x128 .f32) (r : Fin 32) (z : Fin 1) :
    amaxV (F := Ideal) y (ix2 r z) = Finset.univ.fold max (⊥ : EReal) fun l : Fin 128 => max (y (ix2 r l) : EReal) (-(y (ix2 r l))) := by
  unfold amaxV
  pointwise
  have hb : Ideal.ofBits .f32 4286578688#32 = (⊥ : EReal) := by simp [Ideal.ofBits, Ideal.ieee]
  rw [hb]
  rfl

theorem emb2 (o : ℕ) (h : o + 32 ≤ 128) (j : Fin 40) (r : Fin 32) (l : Fin 128) :
    (blkR o h j).emb (ix2 r l) = (ix2 (⟨o + r.val, by omega⟩ : Fin 128) (lane j l) : S128x5120.Idx) := by
  funext a
  match a with
  | ⟨0, _⟩ => apply Fin.ext; show o + 1 * r.val = o + r.val; omega
  | ⟨1, _⟩ => apply Fin.ext; show 128 * j.val + 1 * l.val = 128 * j.val + l.val; omega

theorem rowR_emb (j : Fin 40) (l : Fin 128) : (rowR j).emb (ix2 0 l) = (ix2 0 (lane j l) : S1x5120.Idx) := by
  funext a
  match a with
  | ⟨0, _⟩ => apply Fin.ext; rfl
  | ⟨1, _⟩ => apply Fin.ext; show 128 * j.val + 1 * l.val = 128 * j.val + l.val; omega

/-- The places of a chunk of the statistics plane. -/
theorem emb43 (k : Fin k0_t2_loop.trips) (r : Fin 32) (l : Fin 128) :
    (Rect.unit (s := S128x128) (k0_off43 k) S32x128.size (k0_off43_inb k)).emb (ix2 r l) = (ix2 (⟨ro2 k + r.val, by have := ro2_le k; omega⟩ : Fin 128) l : S128x128.Idx) := by
  funext a
  apply Fin.ext
  show k0_off43 k a + 1 * (ix2 r l a : ℕ) = _
  rw [k0_off43_eq]
  match a with
  | ⟨0, _⟩ => show 32 * k.val + 1 * r.val = ro2 k + r.val; rw [ro2_eq]; omega
  | ⟨1, _⟩ => show 0 + 1 * l.val = l.val; omega

/-- One normalised block is the normalised plane at the block's places. -/
theorem y2_apply {κ6 κ7 κ12 κ14 : Kind} {sp6 sp7 sp12 sp14 : Space} (v6 : View sig κ6 sp6 S1x5120 .f32) (v7 : View sig κ7 sp7 S1x5120 .f32)
    (v12 : View sig κ12 sp12 S128x5120 .bf16) (v14 : View sig κ14 sp14 S128x128 .f32)
    (X6 : v6.ty.Contents (Elt Ideal)) (X7 : v7.ty.Contents (Elt Ideal)) (X12 : v12.ty.Contents (Elt Ideal)) (X14 : v14.ty.Contents (Elt Ideal))
    (k : Fin k0_t2_loop.trips) (j : Fin 40) (r : Fin 32) (l : Fin 128) :
    y2 (F := Ideal) v6 v7 v12 v14 X6 X7 X12 X14 k j (ix2 r l) =
      yI (v14.read (Elt Ideal) X14) (v12.read (Elt Ideal) X12) (v6.read (Elt Ideal) X6) (v7.read (Elt Ideal) X7)
        (ix2 (⟨ro2 k + r.val, by have := ro2_le k; omega⟩ : Fin 128) (lane j l)) := by
  unfold y2
  refine (yV_apply _ _ _ _ r l).trans ?_
  unfold yI
  rw [ix2_0, ix2_1, ← emb2 (ro2 k) (ro2_le k) j r l, ← rowR_emb, ← emb43, ← emb43]
  rfl

/-- After the second loop the scratch plane holds the normalised plane. -/
theorem t2_13 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X6 : arg6.view.ty.Contents (Elt Ideal)) (X7 : arg7.view.ty.Contents (Elt Ideal)) (X12 : arg12.view.ty.Contents (Elt Ideal)) (X14 : arg14.view.ty.Contents (Elt Ideal)) (f : arg13.view.ty.Contents (Elt Ideal)) (y : S128x5120.Idx) :
    arg13.view.read (Elt Ideal) (arg13.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 k0_t2_loop.trips).1) y = yI (arg14.view.read (Elt Ideal) X14) (arg12.view.read (Elt Ideal) X12) (arg6.view.read (Elt Ideal) X6) (arg7.view.read (Elt Ideal) X7) y := by
  refine read_blocks (F := Ideal) arg13.view f _ (le_of_eq trips2.symm) ro2 ro2_eq ro2_le (fun k j => shapeCast S32x128 (y2 (F := Ideal) arg6.view arg7.view arg12.view arg14.view X6 X7 X12 X14 k j) shapeCasts_S32x128_S32x128)
    (mem2_13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14) (yI (arg14.view.read (Elt Ideal) X14) (arg12.view.read (Elt Ideal) X12) (arg6.view.read (Elt Ideal) X6) (arg7.view.read (Elt Ideal) X7)) (fun k j x => ?_) y
  obtain ⟨r, l, rfl⟩ : ∃ (r : Fin 32) (l : Fin 128), x = ix2 r l := ⟨x 0, x 1, eq_ix2 x⟩
  rw [emb2]
  refine Eq.trans ?_ (y2_apply arg6.view arg7.view arg12.view arg14.view X6 X7 X12 X14 k j r l)
  exact congrFun (shapeCast_id _ _) _

/-- After the second loop the first 40 lanes of the plane of maxima hold the largest magnitudes of the blocks. -/
theorem t2_15 (𝒱 : Variants) (c : Dev nD) (bd : Option 𝒱.V) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (X6 : arg6.view.ty.Contents (Elt Ideal)) (X7 : arg7.view.ty.Contents (Elt Ideal)) (X12 : arg12.view.ty.Contents (Elt Ideal)) (X14 : arg14.view.ty.Contents (Elt Ideal)) (f : arg15.view.ty.Contents (Elt Ideal)) (y : S128x128.Idx) (hy : (y 1).val < 40) :
    arg15.view.read (Elt Ideal) (arg15.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 k0_t2_loop.trips).2) y = amaxI (yI (arg14.view.read (Elt Ideal) X14) (arg12.view.read (Elt Ideal) X12) (arg6.view.read (Elt Ideal) X6) (arg7.view.read (Elt Ideal) X7)) (y 0) ⟨(y 1).val, hy⟩ := by
  have main := View.read_writes_apply_of_pieces arg15.view f (fun y : S128x128.Idx => (if hy : (y 1).val < 40 then amaxI (yI (arg14.view.read (Elt Ideal) X14) (arg12.view.read (Elt Ideal) X12) (arg6.view.read (Elt Ideal) X6) (arg7.view.read (Elt Ideal) X7)) (y 0) ⟨(y 1).val, hy⟩ else 0 : EReal)) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 k0_t2_loop.trips).2 ?_ y ?_
  · rw [main, dif_pos hy]
  · intro p hp x
    obtain ⟨k, hk⟩ := (mem2_15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 p).1 hp
    obtain ⟨j, _, rfl⟩ := List.mem_map.1 hk
    obtain ⟨r, z, rfl⟩ : ∃ (r : Fin 32) (z : Fin 1), x = ix2 r z := ⟨x 0, x 1, eq_ix2 x⟩
    have he : (Rect.unit (s := S128x128) ![ro2 k, j.val] S32x1.size (colinb (ro2_le k) j)).emb (ix2 r z) = (ix2 (⟨ro2 k + r.val, by have := ro2_le k; omega⟩ : Fin 128) (⟨j.val, by omega⟩ : Fin 128) : S128x128.Idx) := by
      funext a
      apply Fin.ext
      match a with
      | ⟨0, _⟩ => show ro2 k + 1 * r.val = ro2 k + r.val; omega
      | ⟨1, _⟩ => show j.val + 1 * z.val = j.val; omega
    refine (amaxV_apply _ r z).trans ?_
    refine Eq.trans ?_ (congrArg (fun y : S128x128.Idx => (if hy : (y 1).val < 40 then amaxI (yI (arg14.view.read (Elt Ideal) X14) (arg12.view.read (Elt Ideal) X12) (arg6.view.read (Elt Ideal) X6) (arg7.view.read (Elt Ideal) X7)) (y 0) ⟨(y 1).val, hy⟩ else 0 : EReal)) he).symm
    dsimp only
    rw [dif_pos (show ((ix2 (⟨ro2 k + r.val, by have := ro2_le k; omega⟩ : Fin 128) (⟨j.val, by omega⟩ : Fin 128) : S128x128.Idx) 1).val < 40 from j.isLt)]
    unfold amaxI
    simp only [y2_apply]
    rfl
  · have h0 : (y 0).val < 128 := (y 0).isLt
    refine ⟨_, (mem2_15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X6 X7 X12 X14 _).2 ⟨⟨(y 0).val / 32, by rw [trips2]; omega⟩, List.mem_map.2 ⟨⟨(y 1).val, hy⟩, mem_down40 _, rfl⟩⟩, ?_⟩
    rw [Rect.mem_set_unit]
    intro a
    rw [ro2_eq]
    match a with
    | ⟨0, _⟩ => show 32 * ((y 0).val / 32) ≤ (y 0).val ∧ (y 0).val < 32 * ((y 0).val / 32) + 32; omega
    | ⟨1, _⟩ => show (y 1).val ≤ (y 1).val ∧ (y 1).val < (y 1).val + 1; omega

end Cert.KernelIdeal.Val
-- ==== Proof.RunFirst.lean ====
/-
  The first point of the grid of `KernelIdeal`: what it leaves in every buffer, on extended reals.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import proofs.«01_k».proof.Proof.LoopVal1
public import proofs.«01_k».proof.Proof.LoopVal2
public import proofs.«01_k».proof.Proof.LoopVal3
public import proofs.«01_k».proof.Proof.RunPure

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point of the grid leaves in every buffer, from what the buffers hold. -/
theorem runFirst (c : Dev nD) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (h1 :  ((Scalar.cmpi .ne (Scalar.extui (Scalar.cmpi .eq (BitVec.ofNat 32 (i 0).val) 0#32)) 0#32 : BitVec 1) = 1#1)) (h2 : ¬ (k0_cond2 i = 1#1)) (d1 : S4.Idx → EReal) (d2 : S128x5120.Idx → EReal) (d3 : S128x5120.Idx → EReal) (d4 : S4x2x1024.Idx → EReal) (d5 : S4x2x1024.Idx → EReal) (d6 : S1x5120.Idx → EReal) (d7 : S1x5120.Idx → EReal) (d8 : S128x5120.Idx → EReal) (d9 : S128x40.Idx → EReal) (d10 : S2x1024.Idx → EReal) (d11 : S2x1024.Idx → EReal) (d12 : S128x5120.Idx → EReal) (d13 : S128x5120.Idx → EReal) (d14 : S128x128.Idx → EReal) (d15 : S128x128.Idx → EReal) (d16 : S16x8x128.Idx → EReal) (d17 : S16x8x128.Idx → EReal) (K : PUnit → sProp (MT nD τ sig Unit (Elt Ideal) ℕ (UR sig nD τ) ℕ)) :
    iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare (codesI (ptY (nOf d1) (tabI d4 d5) d2 d3 d6 d7 (pt i))) ∗ owns (c : Thread nD τ) arg9 fullShare (scalesI (ptY (nOf d1) (tabI d4 d5) d2 d3 d6 d7 (pt i))) ∗ owns (c : Thread nD τ) arg10 fullShare d10 ∗ owns (c : Thread nD τ) arg11 fullShare d11 ∗ owns (c : Thread nD τ) arg12 fullShare (hI d2 d3) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (tabI d4 d5) ∗ owns (c : Thread nD τ) arg17 fullShare (outI (nOf d1) (tabI d4 d5) (hI d2 d3) (pt i) d17)) -∗ K ⟨⟩)) ⊢ wp Idealize.ShloMosaic.frame (wpE (defs₀ (F := Ideal)) Variants.none (c : Thread nD τ) none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, Hk⟩
  subst e1 e2 e3 e4 e5 e6 e7 e8 e9 e10 e11 e12 e13 e14 e15 e16 e17
  sl_exec (disch := first | exact h1 | exact h2)
  sl_step
  iapply Hk
  isplitl [H1]
  · iexists _; isplitr; swap; · iexact H1
    ipureintro
    exact rfl
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact rfl
  isplitl [H7]
  · iexists _; isplitr; swap; · iexact H7
    ipureintro
    exact rfl
  isplitl [H8]
  · iexists _; isplitr; swap; · iexact H8
    ipureintro
    refine funext fun y => (t3_8 _ _ _ _ _ _ _ _ _ _ _ _ _ _ _ _ _ _ _ _ _ _ _ _ _ _ _ _ _ _ _ _ _ _ _ _ _ _ _ _ _ y).trans (codes_congr (fun y => ?_) (fun y hy => ?_) y)
    · refine (t2_13 _ _ _ _ _ _ _ _ _ _ _ _ _ _ _ _ _ _ _ _ _ _ _ _ _ _ _ _ _ _ _ _ _ _ _ _ _ _ _ _ _ _ _ y).trans (congrFun ?_ y)
      refine yI_congr _ _ (fun y => ?_) (fun y => t1_12 _ _ _ _ _ _ _ _ _ _ _ _ _ _ _ _ _ _ _ _ _ _ _ _ _ _ _ _ _ _ _ _ _ _ _ _ _ _ _ _ _ _ y)
      try unfold runFirst.sl.H14_1
      try unfold runFirst.sl.r_12
      try unfold runFirst.sl.r_3
      try unfold runFirst.sl.r_4
      try unfold runFirst.sl.r_5
      try unfold runFirst.sl.r_6
      try unfold runFirst.sl.r_7
      try unfold runFirst.sl.r_8
      try unfold runFirst.sl.r_9
      try unfold runFirst.sl.r_10
      try unfold runFirst.sl.r_11
      refine st_read arg14.view arg16.view i _ _ _ (fun y => ?_) _ (fun y => tab_read arg4.view arg5.view arg16.view f4 f5 _ y) _ _ _ _ _ (nOf_eq arg1.view f1 inb_S4_S1_0 inb_S4_S1_1 inb_S4_S1_2 inb_S4_S1_3 (by decide) (by decide) (by decide) (by decide)) arg14.view.junk _ y
      exact t1_14 _ _ _ _ _ _ _ _ _ _ _ _ _ _ _ _ _ _ _ _ _ _ _ _ _ _ _ _ _ _ _ _ _ _ _ _ _ _ _ _ _ _ y
    · refine (t2_15 _ _ _ _ _ _ _ _ _ _ _ _ _ _ _ _ _ _ _ _ _ _ _ _ _ _ _ _ _ _ _ _ _ _ _ _ _ _ _ _ _ _ _ y hy).trans (congrArg (fun Y => amaxI Y (y 0) ⟨(y 1).val, hy⟩) ?_)
      refine yI_congr _ _ (fun y => ?_) (fun y => t1_12 _ _ _ _ _ _ _ _ _ _ _ _ _ _ _ _ _ _ _ _ _ _ _ _ _ _ _ _ _ _ _ _ _ _ _ _ _ _ _ _ _ _ y)
      try unfold runFirst.sl.H14_1
      try unfold runFirst.sl.r_12
      try unfold runFirst.sl.r_3
      try unfold runFirst.sl.r_4
      try unfold runFirst.sl.r_5
      try unfold runFirst.sl.r_6
      try unfold runFirst.sl.r_7
      try unfold runFirst.sl.r_8
      try unfold runFirst.sl.r_9
      try unfold runFirst.sl.r_10
      try unfold runFirst.sl.r_11
      refine st_read arg14.view arg16.view i _ _ _ (fun y => ?_) _ (fun y => tab_read arg4.view arg5.view arg16.view f4 f5 _ y) _ _ _ _ _ (nOf_eq arg1.view f1 inb_S4_S1_0 inb_S4_S1_1 inb_S4_S1_2 inb_S4_S1_3 (by decide) (by decide) (by decide) (by decide)) arg14.view.junk _ y
      exact t1_14 _ _ _ _ _ _ _ _ _ _ _ _ _ _ _ _ _ _ _ _ _ _ _ _ _ _ _ _ _ _ _ _ _ _ _ _ _ _ _ _ _ _ y

  isplitl [H9]
  · iexists _; isplitr; swap; · iexact H9
    ipureintro
    refine funext fun y => (t3_9 _ _ _ _ _ _ _ _ _ _ _ _ _ _ _ _ _ _ _ _ _ _ _ _ _ _ _ _ _ _ _ _ _ _ _ _ _ _ _ _ _ y).trans (scales_congr (fun y hy => ?_) y)
    refine (t2_15 _ _ _ _ _ _ _ _ _ _ _ _ _ _ _ _ _ _ _ _ _ _ _ _ _ _ _ _ _ _ _ _ _ _ _ _ _ _ _ _ _ _ _ y hy).trans (congrArg (fun Y => amaxI Y (y 0) ⟨(y 1).val, hy⟩) ?_)
    refine yI_congr _ _ (fun y => ?_) (fun y => t1_12 _ _ _ _ _ _ _ _ _ _ _ _ _ _ _ _ _ _ _ _ _ _ _ _ _ _ _ _ _ _ _ _ _ _ _ _ _ _ _ _ _ _ y)
    try unfold runFirst.sl.H14_1
    try unfold runFirst.sl.r_12
    try unfold runFirst.sl.r_3
    try unfold runFirst.sl.r_4
    try unfold runFirst.sl.r_5
    try unfold runFirst.sl.r_6
    try unfold runFirst.sl.r_7
    try unfold runFirst.sl.r_8
    try unfold runFirst.sl.r_9
    try unfold runFirst.sl.r_10
    try unfold runFirst.sl.r_11
    refine st_read arg14.view arg16.view i _ _ _ (fun y => ?_) _ (fun y => tab_read arg4.view arg5.view arg16.view f4 f5 _ y) _ _ _ _ _ (nOf_eq arg1.view f1 inb_S4_S1_0 inb_S4_S1_1 inb_S4_S1_2 inb_S4_S1_3 (by decide) (by decide) (by decide) (by decide)) arg14.view.junk _ y
    exact t1_14 _ _ _ _ _ _ _ _ _ _ _ _ _ _ _ _ _ _ _ _ _ _ _ _ _ _ _ _ _ _ _ _ _ _ _ _ _ _ _ _ _ _ y

  isplitl [H10]
  · iexists _; isplitr; swap; · iexact H10
    ipureintro
    exact rfl
  isplitl [H11]
  · iexists _; isplitr; swap; · iexact H11
    ipureintro
    exact rfl
  isplitl [H12]
  · iexists _; isplitr; swap; · iexact H12
    ipureintro
    exact funext (fun y => t1_12 _ _ _ _ _ _ _ _ _ _ _ _ _ _ _ _ _ _ _ _ _ _ _ _ _ _ _ _ _ _ _ _ _ _ _ _ _ _ _ _ _ _ y)
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _; isplitr; swap; · iexact H16
    ipureintro
    exact funext (fun y => tab_read arg4.view arg5.view arg16.view f4 f5 _ y)
  iexists _; isplitr; swap; · iexact H17
  ipureintro
  refine funext fun y => ?_
  try unfold runFirst.sl.r_3
  try unfold runFirst.sl.r_4
  try unfold runFirst.sl.r_5
  try unfold runFirst.sl.r_6
  try unfold runFirst.sl.r_7
  try unfold runFirst.sl.r_8
  try unfold runFirst.sl.r_9
  try unfold runFirst.sl.r_10
  try unfold runFirst.sl.r_11
  refine out_read arg14.view arg16.view arg17.view i _ _ _ (fun y => ?_) _ (fun y => tab_read arg4.view arg5.view arg16.view f4 f5 _ y) _ _ _ _ _ (nOf_eq arg1.view f1 inb_S4_S1_0 inb_S4_S1_1 inb_S4_S1_2 inb_S4_S1_3 (by decide) (by decide) (by decide) (by decide)) _ y
  exact t1_14 _ _ _ _ _ _ _ _ _ _ _ _ _ _ _ _ _ _ _ _ _ _ _ _ _ _ _ _ _ _ _ _ _ _ _ _ _ _ _ _ _ _ y

end Cert.KernelIdeal.Val
-- ==== Proof.RunMid.lean ====
/-
  A point that is neither the first nor the last of the grid of `KernelIdeal`: what it leaves in every buffer, on extended reals.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import proofs.«01_k».proof.Proof.LoopVal1
public import proofs.«01_k».proof.Proof.LoopVal2
public import proofs.«01_k».proof.Proof.LoopVal3
public import proofs.«01_k».proof.Proof.RunPure

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point that is neither the first nor the last of the grid leaves in every buffer, from what the buffers hold. -/
theorem runMid (c : Dev nD) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (h1 : ¬ ((Scalar.cmpi .ne (Scalar.extui (Scalar.cmpi .eq (BitVec.ofNat 32 (i 0).val) 0#32)) 0#32 : BitVec 1) = 1#1)) (h2 : ¬ (k0_cond2 i = 1#1)) (d1 : S4.Idx → EReal) (d2 : S128x5120.Idx → EReal) (d3 : S128x5120.Idx → EReal) (d4 : S4x2x1024.Idx → EReal) (d5 : S4x2x1024.Idx → EReal) (d6 : S1x5120.Idx → EReal) (d7 : S1x5120.Idx → EReal) (d8 : S128x5120.Idx → EReal) (d9 : S128x40.Idx → EReal) (d10 : S2x1024.Idx → EReal) (d11 : S2x1024.Idx → EReal) (d12 : S128x5120.Idx → EReal) (d13 : S128x5120.Idx → EReal) (d14 : S128x128.Idx → EReal) (d15 : S128x128.Idx → EReal) (d16 : S16x8x128.Idx → EReal) (d17 : S16x8x128.Idx → EReal) (K : PUnit → sProp (MT nD τ sig Unit (Elt Ideal) ℕ (UR sig nD τ) ℕ)) :
    iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare (codesI (ptY (nOf d1) d16 d2 d3 d6 d7 (pt i))) ∗ owns (c : Thread nD τ) arg9 fullShare (scalesI (ptY (nOf d1) d16 d2 d3 d6 d7 (pt i))) ∗ owns (c : Thread nD τ) arg10 fullShare d10 ∗ owns (c : Thread nD τ) arg11 fullShare d11 ∗ owns (c : Thread nD τ) arg12 fullShare (hI d2 d3) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16 ∗ owns (c : Thread nD τ) arg17 fullShare (outI (nOf d1) d16 (hI d2 d3) (pt i) d17)) -∗ K ⟨⟩)) ⊢ wp Idealize.ShloMosaic.frame (wpE (defs₀ (F := Ideal)) Variants.none (c : Thread nD τ) none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, Hk⟩
  subst e1 e2 e3 e4 e5 e6 e7 e8 e9 e10 e11 e12 e13 e14 e15 e16 e17
  sl_exec (disch := first | exact h1 | exact h2)
  sl_step
  iapply Hk
  isplitl [H1]
  · iexists _; isplitr; swap; · iexact H1
    ipureintro
    exact rfl
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact rfl
  isplitl [H7]
  · iexists _; isplitr; swap; · iexact H7
    ipureintro
    exact rfl
  isplitl [H8]
  · iexists _; isplitr; swap; · iexact H8
    ipureintro
    refine funext fun y => (t3_8 _ _ _ _ _ _ _ _ _ _ _ _ _ _ _ _ _ _ _ _ _ _ _ _ _ _ _ _ _ _ _ _ _ _ _ _ _ _ _ _ _ y).trans (codes_congr (fun y => ?_) (fun y hy => ?_) y)
    · refine (t2_13 _ _ _ _ _ _ _ _ _ _ _ _ _ _ _ _ _ _ _ _ _ _ _ _ _ _ _ _ _ _ _ _ _ _ _ _ _ _ _ _ _ _ _ y).trans (congrFun ?_ y)
      refine yI_congr _ _ (fun y => ?_) (fun y => t1_12 _ _ _ _ _ _ _ _ _ _ _ _ _ _ _ _ _ _ _ _ _ _ _ _ _ _ _ _ _ _ _ _ _ _ _ _ _ _ _ _ _ _ y)
      try unfold runMid.sl.H14_1
      try unfold runMid.sl.r_12
      try unfold runMid.sl.r_3
      try unfold runMid.sl.r_4
      try unfold runMid.sl.r_5
      try unfold runMid.sl.r_6
      try unfold runMid.sl.r_7
      try unfold runMid.sl.r_8
      try unfold runMid.sl.r_9
      try unfold runMid.sl.r_10
      try unfold runMid.sl.r_11
      refine st_read arg14.view arg16.view i _ f16 _ (fun y => ?_) _ (fun y => rfl) _ _ _ _ _ (nOf_eq arg1.view f1 inb_S4_S1_0 inb_S4_S1_1 inb_S4_S1_2 inb_S4_S1_3 (by decide) (by decide) (by decide) (by decide)) arg14.view.junk _ y
      exact t1_14 _ _ _ _ _ _ _ _ _ _ _ _ _ _ _ _ _ _ _ _ _ _ _ _ _ _ _ _ _ _ _ _ _ _ _ _ _ _ _ _ _ _ y
    · refine (t2_15 _ _ _ _ _ _ _ _ _ _ _ _ _ _ _ _ _ _ _ _ _ _ _ _ _ _ _ _ _ _ _ _ _ _ _ _ _ _ _ _ _ _ _ y hy).trans (congrArg (fun Y => amaxI Y (y 0) ⟨(y 1).val, hy⟩) ?_)
      refine yI_congr _ _ (fun y => ?_) (fun y => t1_12 _ _ _ _ _ _ _ _ _ _ _ _ _ _ _ _ _ _ _ _ _ _ _ _ _ _ _ _ _ _ _ _ _ _ _ _ _ _ _ _ _ _ y)
      try unfold runMid.sl.H14_1
      try unfold runMid.sl.r_12
      try unfold runMid.sl.r_3
      try unfold runMid.sl.r_4
      try unfold runMid.sl.r_5
      try unfold runMid.sl.r_6
      try unfold runMid.sl.r_7
      try unfold runMid.sl.r_8
      try unfold runMid.sl.r_9
      try unfold runMid.sl.r_10
      try unfold runMid.sl.r_11
      refine st_read arg14.view arg16.view i _ f16 _ (fun y => ?_) _ (fun y => rfl) _ _ _ _ _ (nOf_eq arg1.view f1 inb_S4_S1_0 inb_S4_S1_1 inb_S4_S1_2 inb_S4_S1_3 (by decide) (by decide) (by decide) (by decide)) arg14.view.junk _ y
      exact t1_14 _ _ _ _ _ _ _ _ _ _ _ _ _ _ _ _ _ _ _ _ _ _ _ _ _ _ _ _ _ _ _ _ _ _ _ _ _ _ _ _ _ _ y

  isplitl [H9]
  · iexists _; isplitr; swap; · iexact H9
    ipureintro
    refine funext fun y => (t3_9 _ _ _ _ _ _ _ _ _ _ _ _ _ _ _ _ _ _ _ _ _ _ _ _ _ _ _ _ _ _ _ _ _ _ _ _ _ _ _ _ _ y).trans (scales_congr (fun y hy => ?_) y)
    refine (t2_15 _ _ _ _ _ _ _ _ _ _ _ _ _ _ _ _ _ _ _ _ _ _ _ _ _ _ _ _ _ _ _ _ _ _ _ _ _ _ _ _ _ _ _ y hy).trans (congrArg (fun Y => amaxI Y (y 0) ⟨(y 1).val, hy⟩) ?_)
    refine yI_congr _ _ (fun y => ?_) (fun y => t1_12 _ _ _ _ _ _ _ _ _ _ _ _ _ _ _ _ _ _ _ _ _ _ _ _ _ _ _ _ _ _ _ _ _ _ _ _ _ _ _ _ _ _ y)
    try unfold runMid.sl.H14_1
    try unfold runMid.sl.r_12
    try unfold runMid.sl.r_3
    try unfold runMid.sl.r_4
    try unfold runMid.sl.r_5
    try unfold runMid.sl.r_6
    try unfold runMid.sl.r_7
    try unfold runMid.sl.r_8
    try unfold runMid.sl.r_9
    try unfold runMid.sl.r_10
    try unfold runMid.sl.r_11
    refine st_read arg14.view arg16.view i _ f16 _ (fun y => ?_) _ (fun y => rfl) _ _ _ _ _ (nOf_eq arg1.view f1 inb_S4_S1_0 inb_S4_S1_1 inb_S4_S1_2 inb_S4_S1_3 (by decide) (by decide) (by decide) (by decide)) arg14.view.junk _ y
    exact t1_14 _ _ _ _ _ _ _ _ _ _ _ _ _ _ _ _ _ _ _ _ _ _ _ _ _ _ _ _ _ _ _ _ _ _ _ _ _ _ _ _ _ _ y

  isplitl [H10]
  · iexists _; isplitr; swap; · iexact H10
    ipureintro
    exact rfl
  isplitl [H11]
  · iexists _; isplitr; swap; · iexact H11
    ipureintro
    exact rfl
  isplitl [H12]
  · iexists _; isplitr; swap; · iexact H12
    ipureintro
    exact funext (fun y => t1_12 _ _ _ _ _ _ _ _ _ _ _ _ _ _ _ _ _ _ _ _ _ _ _ _ _ _ _ _ _ _ _ _ _ _ _ _ _ _ _ _ _ _ y)
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _; isplitr; swap; · iexact H16
    ipureintro
    exact rfl
  iexists _; isplitr; swap; · iexact H17
  ipureintro
  refine funext fun y => ?_
  try unfold runMid.sl.r_3
  try unfold runMid.sl.r_4
  try unfold runMid.sl.r_5
  try unfold runMid.sl.r_6
  try unfold runMid.sl.r_7
  try unfold runMid.sl.r_8
  try unfold runMid.sl.r_9
  try unfold runMid.sl.r_10
  try unfold runMid.sl.r_11
  refine out_read arg14.view arg16.view arg17.view i _ f16 _ (fun y => ?_) _ (fun y => rfl) _ _ _ _ _ (nOf_eq arg1.view f1 inb_S4_S1_0 inb_S4_S1_1 inb_S4_S1_2 inb_S4_S1_3 (by decide) (by decide) (by decide) (by decide)) _ y
  exact t1_14 _ _ _ _ _ _ _ _ _ _ _ _ _ _ _ _ _ _ _ _ _ _ _ _ _ _ _ _ _ _ _ _ _ _ _ _ _ _ _ _ _ _ y

end Cert.KernelIdeal.Val
-- ==== Proof.RunLast.lean ====
/-
  The last point of the grid of `KernelIdeal`: what it leaves in every buffer, on extended reals.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import proofs.«01_k».proof.Proof.LoopVal1
public import proofs.«01_k».proof.Proof.LoopVal2
public import proofs.«01_k».proof.Proof.LoopVal3
public import proofs.«01_k».proof.Proof.RunPure

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the last point of the grid leaves in every buffer, from what the buffers hold. -/
theorem runLast (c : Dev nD) (i : grid0.Coords) (arg1 : Memref sig .tc .smem S4 .f32) (harg1 : arg1.IsWhole) (arg2 : Memref sig .tc .vmem S128x5120 .bf16) (harg2 : arg2.IsWhole) (arg3 : Memref sig .tc .vmem S128x5120 .bf16) (harg3 : arg3.IsWhole) (arg4 : Memref sig .tc .vmem S4x2x1024 .f32) (harg4 : arg4.IsWhole) (arg5 : Memref sig .tc .vmem S4x2x1024 .f32) (harg5 : arg5.IsWhole) (arg6 : Memref sig .tc .vmem S1x5120 .f32) (harg6 : arg6.IsWhole) (arg7 : Memref sig .tc .vmem S1x5120 .f32) (harg7 : arg7.IsWhole) (arg8 : Memref sig .tc .vmem S128x5120 .fp8e4m3) (harg8 : arg8.IsWhole) (arg9 : Memref sig .tc .vmem S128x40 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S128x5120 .bf16) (harg12 : arg12.IsWhole) (arg13 : Memref sig .tc .vmem S128x5120 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S16x8x128 .f32) (harg16 : arg16.IsWhole) (arg17 : Memref sig .tc .vmem S16x8x128 .f32) (harg17 : arg17.IsWhole) (h1 : ¬ ((Scalar.cmpi .ne (Scalar.extui (Scalar.cmpi .eq (BitVec.ofNat 32 (i 0).val) 0#32)) 0#32 : BitVec 1) = 1#1)) (h2 :  (k0_cond2 i = 1#1)) (d1 : S4.Idx → EReal) (d2 : S128x5120.Idx → EReal) (d3 : S128x5120.Idx → EReal) (d4 : S4x2x1024.Idx → EReal) (d5 : S4x2x1024.Idx → EReal) (d6 : S1x5120.Idx → EReal) (d7 : S1x5120.Idx → EReal) (d8 : S128x5120.Idx → EReal) (d9 : S128x40.Idx → EReal) (d10 : S2x1024.Idx → EReal) (d11 : S2x1024.Idx → EReal) (d12 : S128x5120.Idx → EReal) (d13 : S128x5120.Idx → EReal) (d14 : S128x128.Idx → EReal) (d15 : S128x128.Idx → EReal) (d16 : S16x8x128.Idx → EReal) (d17 : S16x8x128.Idx → EReal) (K : PUnit → sProp (MT nD τ sig Unit (Elt Ideal) ℕ (UR sig nD τ) ℕ)) :
    iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare (codesI (ptY (nOf d1) d16 d2 d3 d6 d7 (pt i))) ∗ owns (c : Thread nD τ) arg9 fullShare (scalesI (ptY (nOf d1) d16 d2 d3 d6 d7 (pt i))) ∗ owns (c : Thread nD τ) arg10 fullShare (resI (outI (nOf d1) d16 (hI d2 d3) (pt i) d17) 0) ∗ owns (c : Thread nD τ) arg11 fullShare (resI (outI (nOf d1) d16 (hI d2 d3) (pt i) d17) 1) ∗ owns (c : Thread nD τ) arg12 fullShare (hI d2 d3) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16 ∗ owns (c : Thread nD τ) arg17 fullShare (outI (nOf d1) d16 (hI d2 d3) (pt i) d17)) -∗ K ⟨⟩)) ⊢ wp Idealize.ShloMosaic.frame (wpE (defs₀ (F := Ideal)) Variants.none (c : Thread nD τ) none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, Hk⟩
  subst e1 e2 e3 e4 e5 e6 e7 e8 e9 e10 e11 e12 e13 e14 e15 e16 e17
  sl_exec (disch := first | exact h1 | exact h2)
  sl_step
  iapply Hk
  isplitl [H1]
  · iexists _; isplitr; swap; · iexact H1
    ipureintro
    exact rfl
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact rfl
  isplitl [H7]
  · iexists _; isplitr; swap; · iexact H7
    ipureintro
    exact rfl
  isplitl [H8]
  · iexists _; isplitr; swap; · iexact H8
    ipureintro
    refine funext fun y => (t3_8 _ _ _ _ _ _ _ _ _ _ _ _ _ _ _ _ _ _ _ _ _ _ _ _ _ _ _ _ _ _ _ _ _ _ _ _ _ _ _ _ _ y).trans (codes_congr (fun y => ?_) (fun y hy => ?_) y)
    · refine (t2_13 _ _ _ _ _ _ _ _ _ _ _ _ _ _ _ _ _ _ _ _ _ _ _ _ _ _ _ _ _ _ _ _ _ _ _ _ _ _ _ _ _ _ _ y).trans (congrFun ?_ y)
      refine yI_congr _ _ (fun y => ?_) (fun y => t1_12 _ _ _ _ _ _ _ _ _ _ _ _ _ _ _ _ _ _ _ _ _ _ _ _ _ _ _ _ _ _ _ _ _ _ _ _ _ _ _ _ _ _ y)
      try unfold runLast.sl.H14_1
      try unfold runLast.sl.r_12
      try unfold runLast.sl.r_3
      try unfold runLast.sl.r_4
      try unfold runLast.sl.r_5
      try unfold runLast.sl.r_6
      try unfold runLast.sl.r_7
      try unfold runLast.sl.r_8
      try unfold runLast.sl.r_9
      try unfold runLast.sl.r_10
      try unfold runLast.sl.r_11
      refine st_read arg14.view arg16.view i _ f16 _ (fun y => ?_) _ (fun y => rfl) _ _ _ _ _ (nOf_eq arg1.view f1 inb_S4_S1_0 inb_S4_S1_1 inb_S4_S1_2 inb_S4_S1_3 (by decide) (by decide) (by decide) (by decide)) arg14.view.junk _ y
      exact t1_14 _ _ _ _ _ _ _ _ _ _ _ _ _ _ _ _ _ _ _ _ _ _ _ _ _ _ _ _ _ _ _ _ _ _ _ _ _ _ _ _ _ _ y
    · refine (t2_15 _ _ _ _ _ _ _ _ _ _ _ _ _ _ _ _ _ _ _ _ _ _ _ _ _ _ _ _ _ _ _ _ _ _ _ _ _ _ _ _ _ _ _ y hy).trans (congrArg (fun Y => amaxI Y (y 0) ⟨(y 1).val, hy⟩) ?_)
      refine yI_congr _ _ (fun y => ?_) (fun y => t1_12 _ _ _ _ _ _ _ _ _ _ _ _ _ _ _ _ _ _ _ _ _ _ _ _ _ _ _ _ _ _ _ _ _ _ _ _ _ _ _ _ _ _ y)
      try unfold runLast.sl.H14_1
      try unfold runLast.sl.r_12
      try unfold runLast.sl.r_3
      try unfold runLast.sl.r_4
      try unfold runLast.sl.r_5
      try unfold runLast.sl.r_6
      try unfold runLast.sl.r_7
      try unfold runLast.sl.r_8
      try unfold runLast.sl.r_9
      try unfold runLast.sl.r_10
      try unfold runLast.sl.r_11
      refine st_read arg14.view arg16.view i _ f16 _ (fun y => ?_) _ (fun y => rfl) _ _ _ _ _ (nOf_eq arg1.view f1 inb_S4_S1_0 inb_S4_S1_1 inb_S4_S1_2 inb_S4_S1_3 (by decide) (by decide) (by decide) (by decide)) arg14.view.junk _ y
      exact t1_14 _ _ _ _ _ _ _ _ _ _ _ _ _ _ _ _ _ _ _ _ _ _ _ _ _ _ _ _ _ _ _ _ _ _ _ _ _ _ _ _ _ _ y

  isplitl [H9]
  · iexists _; isplitr; swap; · iexact H9
    ipureintro
    refine funext fun y => (t3_9 _ _ _ _ _ _ _ _ _ _ _ _ _ _ _ _ _ _ _ _ _ _ _ _ _ _ _ _ _ _ _ _ _ _ _ _ _ _ _ _ _ y).trans (scales_congr (fun y hy => ?_) y)
    refine (t2_15 _ _ _ _ _ _ _ _ _ _ _ _ _ _ _ _ _ _ _ _ _ _ _ _ _ _ _ _ _ _ _ _ _ _ _ _ _ _ _ _ _ _ _ y hy).trans (congrArg (fun Y => amaxI Y (y 0) ⟨(y 1).val, hy⟩) ?_)
    refine yI_congr _ _ (fun y => ?_) (fun y => t1_12 _ _ _ _ _ _ _ _ _ _ _ _ _ _ _ _ _ _ _ _ _ _ _ _ _ _ _ _ _ _ _ _ _ _ _ _ _ _ _ _ _ _ y)
    try unfold runLast.sl.H14_1
    try unfold runLast.sl.r_12
    try unfold runLast.sl.r_3
    try unfold runLast.sl.r_4
    try unfold runLast.sl.r_5
    try unfold runLast.sl.r_6
    try unfold runLast.sl.r_7
    try unfold runLast.sl.r_8
    try unfold runLast.sl.r_9
    try unfold runLast.sl.r_10
    try unfold runLast.sl.r_11
    refine st_read arg14.view arg16.view i _ f16 _ (fun y => ?_) _ (fun y => rfl) _ _ _ _ _ (nOf_eq arg1.view f1 inb_S4_S1_0 inb_S4_S1_1 inb_S4_S1_2 inb_S4_S1_3 (by decide) (by decide) (by decide) (by decide)) arg14.view.junk _ y
    exact t1_14 _ _ _ _ _ _ _ _ _ _ _ _ _ _ _ _ _ _ _ _ _ _ _ _ _ _ _ _ _ _ _ _ _ _ _ _ _ _ _ _ _ _ y

  isplitl [H10]
  · iexists _; isplitr; swap; · iexact H10
    ipureintro
    refine funext fun y => (res_read arg17.view _ 0 arg10.view _ y).trans (congrArg (fun d => resI d 0 y) (funext fun y => ?_))
    try unfold runLast.sl.r_3
    try unfold runLast.sl.r_4
    try unfold runLast.sl.r_5
    try unfold runLast.sl.r_6
    try unfold runLast.sl.r_7
    try unfold runLast.sl.r_8
    try unfold runLast.sl.r_9
    try unfold runLast.sl.r_10
    try unfold runLast.sl.r_11
    refine out_read arg14.view arg16.view arg17.view i _ f16 _ (fun y => ?_) _ (fun y => rfl) _ _ _ _ _ (nOf_eq arg1.view f1 inb_S4_S1_0 inb_S4_S1_1 inb_S4_S1_2 inb_S4_S1_3 (by decide) (by decide) (by decide) (by decide)) _ y
    exact t1_14 _ _ _ _ _ _ _ _ _ _ _ _ _ _ _ _ _ _ _ _ _ _ _ _ _ _ _ _ _ _ _ _ _ _ _ _ _ _ _ _ _ _ y

  isplitl [H11]
  · iexists _; isplitr; swap; · iexact H11
    ipureintro
    refine funext fun y => (res_read arg17.view _ 1 arg11.view _ y).trans (congrArg (fun d => resI d 1 y) (funext fun y => ?_))
    try unfold runLast.sl.r_3
    try unfold runLast.sl.r_4
    try unfold runLast.sl.r_5
    try unfold runLast.sl.r_6
    try unfold runLast.sl.r_7
    try unfold runLast.sl.r_8
    try unfold runLast.sl.r_9
    try unfold runLast.sl.r_10
    try unfold runLast.sl.r_11
    refine out_read arg14.view arg16.view arg17.view i _ f16 _ (fun y => ?_) _ (fun y => rfl) _ _ _ _ _ (nOf_eq arg1.view f1 inb_S4_S1_0 inb_S4_S1_1 inb_S4_S1_2 inb_S4_S1_3 (by decide) (by decide) (by decide) (by decide)) _ y
    exact t1_14 _ _ _ _ _ _ _ _ _ _ _ _ _ _ _ _ _ _ _ _ _ _ _ _ _ _ _ _ _ _ _ _ _ _ _ _ _ _ _ _ _ _ y

  isplitl [H12]
  · iexists _; isplitr; swap; · iexact H12
    ipureintro
    exact funext (fun y => t1_12 _ _ _ _ _ _ _ _ _ _ _ _ _ _ _ _ _ _ _ _ _ _ _ _ _ _ _ _ _ _ _ _ _ _ _ _ _ _ _ _ _ _ y)
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _; isplitr; swap; · iexact H16
    ipureintro
    exact rfl
  iexists _; isplitr; swap; · iexact H17
  ipureintro
  refine funext fun y => ?_
  try unfold runLast.sl.r_3
  try unfold runLast.sl.r_4
  try unfold runLast.sl.r_5
  try unfold runLast.sl.r_6
  try unfold runLast.sl.r_7
  try unfold runLast.sl.r_8
  try unfold runLast.sl.r_9
  try unfold runLast.sl.r_10
  try unfold runLast.sl.r_11
  refine out_read arg14.view arg16.view arg17.view i _ f16 _ (fun y => ?_) _ (fun y => rfl) _ _ _ _ _ (nOf_eq arg1.view f1 inb_S4_S1_0 inb_S4_S1_1 inb_S4_S1_2 inb_S4_S1_3 (by decide) (by decide) (by decide) (by decide)) _ y
  exact t1_14 _ _ _ _ _ _ _ _ _ _ _ _ _ _ _ _ _ _ _ _ _ _ _ _ _ _ _ _ _ _ _ _ _ _ _ _ _ _ _ _ _ _ y

end Cert.KernelIdeal.Val
-- ==== Proof.ValueRun.lean ====
/-
  The run of `KernelIdeal` on extended reals with every buffer named: what each point leaves in the windows, the peer
  table and the table of results, and the run of the program with these.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import proofs.«01_k».proof.Proof.RunPure
public import proofs.«01_k».proof.Proof.RunFirst
public import proofs.«01_k».proof.Proof.RunMid
public import proofs.«01_k».proof.Proof.RunLast

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The point of a row of the tables. -/
def tpt (p : Fin 16) : Fin cfg0.N := ⟨p.val, p.isLt⟩

theorem t_lt (t : Fin cfg0.N) : t.val < 16 := t.isLt

theorem pt_coords (t : Fin cfg0.N) : (pt (grid0.coords t)).val = t.val := by
  rcases fin_N0 t with rfl | rfl | rfl | rfl | rfl | rfl | rfl | rfl | rfl | rfl | rfl | rfl | rfl | rfl | rfl | rfl <;> decide

theorem cond1 (t : Fin cfg0.N) : ((Scalar.cmpi .ne (Scalar.extui (Scalar.cmpi .eq (BitVec.ofNat 32 (grid0.coords t 0).val) 0#32)) 0#32 : BitVec 1) = 1#1) ↔ t.val = 0 := by
  rcases fin_N0 t with rfl | rfl | rfl | rfl | rfl | rfl | rfl | rfl | rfl | rfl | rfl | rfl | rfl | rfl | rfl | rfl <;> decide

theorem cond2 (t : Fin cfg0.N) : (k0_cond2 (grid0.coords t) = 1#1) ↔ t.val = 15 := by
  rcases fin_N0 t with rfl | rfl | rfl | rfl | rfl | rfl | rfl | rfl | rfl | rfl | rfl | rfl | rfl | rfl | rfl | rfl <;> decide

/-- The peer table. -/
abbrev TA (c : Dev nD) : S16x8x128.Idx → EReal := tabI (iblk m c 3 t0_0) (iblk m c 4 t0_0)

/-- The rows of a point after the residual sum. -/
abbrev hb (c : Dev nD) (t : Fin cfg0.N) : S128x5120.Idx → EReal := hI (iblk m c 1 t) (iblk m c 2 t)

/-- The rescaled rows of a point. -/
abbrev Yb (c : Dev nD) (t : Fin cfg0.N) : S128x5120.Idx → EReal :=
  ptY (nOf (iblk m c 0 t)) (TA m c) (iblk m c 1 t) (iblk m c 2 t) (iblk m c 5 t) (iblk m c 6 t) (pt (grid0.coords t))

/-- The table of results when every point has run. -/
def tabO (c : Dev nD) : S16x8x128.Idx → EReal := fun y =>
  if (y 1).val = 0 then gmP (nOf (iblk m c 0 (tpt (y 0)))) (TA m c) (hb m c (tpt (y 0))) (y 0) (y 2)
  else grP (nOf (iblk m c 0 (tpt (y 0)))) (TA m c) (hb m c (tpt (y 0))) (y 0) (y 2)

/-- What the table of results holds before point `n`: the rows of the points that have run. -/
def UpTo (c : Dev nD) (n : ℕ) (d : S16x8x128.Idx → EReal) : Prop := ∀ y : S16x8x128.Idx, (y 0).val < n → d y = tabO m c y

theorem out_step (c : Dev nD) (t : Fin cfg0.N) (d : S16x8x128.Idx → EReal) (hd : UpTo m c t.val d) :
    UpTo m c (t.val + 1) (outI (nOf (iblk m c 0 t)) (TA m c) (hI (iblk m c 1 t) (iblk m c 2 t)) (pt (grid0.coords t)) d) := by
  intro y hy
  have hp := pt_coords t
  unfold outI
  by_cases h : (y 0).val = (pt (grid0.coords t)).val
  · rw [if_pos h]
    have e1 : tpt (y 0) = t := Fin.ext (h.trans hp)
    have e2 : (pt (grid0.coords t)) = y 0 := Fin.ext h.symm
    unfold tabO
    rw [e1, e2]
  · rw [if_neg h]
    exact hd y (by omega)

/-- The invariant before point `n`: at the first point every scratch buffer holds anything; afterwards the peer table is
    filled and the table of results holds the rows of the points that have run. -/
def PhiV (c : Dev nD) : ℕ → sProp 𝕄
  | 0 => Pipeline.ΦA spec0 c
  | n + 1 => iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)
      ∗ owns (c : Thread nD τ) (Memref.whole cc0_scratch3) fullShare (TA m c) ∗ (∃ d, ⌜UpTo m c (n + 1) d⌝ ∗ owns (c : Thread nD τ) (Memref.whole cc0_scratch4) fullShare d)) ∗ (∃ r, prngReg c r))

/-- The proof data on core `c`: what every window's buffer holds after each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => codesI (Yb m c t)
    | ⟨8, _⟩ => scalesI (Yb m c t)
    | ⟨9, _⟩ => resI (tabO m c) 0
    | ⟨10, _⟩ => resI (tabO m c) 1
    | ⟨11, _⟩ => hb m c t
  Φ t := PhiV m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = codesI (Yb m c t) := by dsimp only [dats]
theorem after0_8 (c : Dev nD) (t : Fin cfg0.N) : (dats m 0 c).after 8 t = scalesI (Yb m c t) := by dsimp only [dats]
theorem after0_9 (c : Dev nD) (t : Fin cfg0.N) : (dats m 0 c).after 9 t = resI (tabO m c) 0 := by dsimp only [dats]
theorem after0_10 (c : Dev nD) (t : Fin cfg0.N) : (dats m 0 c).after 10 t = resI (tabO m c) 1 := by dsimp only [dats]
theorem after0_11 (c : Dev nD) (t : Fin cfg0.N) : (dats m 0 c).after 11 t = hb m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

theorem PhiA0_eq (c : Dev nD) :
    (Pipeline.ΦA (Val := Elt Ideal) (U := UR sig nD τ) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What a result written at the last point only is left at: itself at the last point, as found before. -/
theorem leaves_mid {w : Fin cfg0.W} (c : Dev nD) (t : Fin cfg0.N) (hi : cfg0.idle w (grid0.coords t) = true) (hf : (cfg0.win w).flush t = false) :
    (dats m 0 c).leavesExact w t = iprop(∃ d, owns (c : Thread nD τ) ((cfg0.win w).stage (cfg0.slots t w)) fullShare ((dats m 0 c).before w t d)) := by
  unfold Dat.leavesExact
  rw [show cfg0.idle w (cfg0.grid.coords t) = true from hi, hf]

theorem leaves_last {w : Fin cfg0.W} (c : Dev nD) (t : Fin cfg0.N) (hi : cfg0.idle w (grid0.coords t) = false) :
    (dats m 0 c).leavesExact w t = iprop(owns (c : Thread nD τ) ((cfg0.win w).stage (cfg0.slots t w)) fullShare ((dats m 0 c).after w t)) := by
  unfold Dat.leavesExact
  rw [show cfg0.idle w (cfg0.grid.coords t) = false from hi]

theorem idle0_9 (t : Fin cfg0.N) (h : t.val ≠ 15) : cfg0.idle 9 (grid0.coords t) = true := by
  show (!(k0_cond2 (grid0.coords t) == 1#1)) = true
  have := mt (cond2 t).1 h
  simpa using this

theorem live0_9 (t : Fin cfg0.N) (h : t.val = 15) : cfg0.idle 9 (grid0.coords t) = false := by
  show (!(k0_cond2 (grid0.coords t) == 1#1)) = false
  have := (cond2 t).2 h
  simp [this]

theorem noflush0_9 (t : Fin cfg0.N) (h : t.val ≠ 15) : (cfg0.win 9).flush t = false := by
  have h2 := t_lt t
  have := mt (flush0_9 t).1 (by omega)
  simpa using this

theorem idle0_10 (t : Fin cfg0.N) (h : t.val ≠ 15) : cfg0.idle 10 (grid0.coords t) = true := by
  show (!(k0_cond2 (grid0.coords t) == 1#1)) = true
  have := mt (cond2 t).1 h
  simpa using this

theorem live0_10 (t : Fin cfg0.N) (h : t.val = 15) : cfg0.idle 10 (grid0.coords t) = false := by
  show (!(k0_cond2 (grid0.coords t) == 1#1)) = false
  have := (cond2 t).2 h
  simp [this]

theorem noflush0_10 (t : Fin cfg0.N) (h : t.val ≠ 15) : (cfg0.win 10).flush t = false := by
  have h2 := t_lt t
  have := mt (flush0_10 t).1 (by omega)
  simpa using this

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ (dats m 0 c).leavesExact 9 t ∗ (dats m 0 c).leavesExact 10 t ∗ owns (c : Thread nD τ) (st0_11 t) fullShare ((dats m 0 c).after 11 t))

/-- The body at a point that is first. -/
theorem bodyFirst (c : Dev nD) (t : Fin cfg0.N) (h0 : t.val = 0) :
    bodyPre m c t ⊢ wp Idealize.ShloMosaic.frame (wpE (defs₀ (F := Ideal)) Variants.none (c : Thread nD τ) none) Set.univ (bodyAt0 t) (fun _ => bodyPost m c t) := by
  have h15 : t.val ≠ 15 := by omega
  unfold bodyPre bodyPost bodyAt0
  rw [leaves_mid m (w := 9) c t (idle0_9 t h15) (noflush0_9 t h15), leaves_mid m (w := 10) c t (idle0_10 t h15) (noflush0_10 t h15), show (dats m 0 c).Φ t.succ = PhiV m c (t.val + 1) from rfl,
    show (dats m 0 c).owesAt () t.succ = (dats m 0 c).owesAt () t.castSucc from rfl, show (dats m 0 c).Φ t.castSucc = Pipeline.ΦA spec0 c from (show PhiV m c t.val = _ by rw [h0]; rfl), PhiA0_eq]
  simp only [before0_0, before0_1, before0_2, before0_3, before0_4, before0_5, before0_6, after0_0, after0_1, after0_2, after0_3, after0_4, after0_5, after0_6, after0_7, after0_8, after0_11]
  unfold PhiV
  iintro ⟨⟨⟨⟨%d13, S0⟩, ⟨%d14, S1⟩, ⟨%d15, S2⟩, ⟨%d16, S3⟩, ⟨%d17, S4⟩⟩, Hg⟩, HO, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩⟩
  have hT : tabI (iblk m c 3 t) (iblk m c 4 t) = TA m c := by
    obtain rfl : t = t0_0 := Fin.ext h0
    rfl
  have hs := out_step m c t d17 (fun y hy => absurd hy (by omega))
  iapply (runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((cond1 t).2 h0) (mt (cond2 t).1 h15) (iblk m c 0 t) (iblk m c 1 t) (iblk m c 2 t) (iblk m c 3 t) (iblk m c 4 t) (iblk m c 5 t) (iblk m c 6 t) ((dats m 0 c).before 7 t e7) ((dats m 0 c).before 8 t e8) ((dats m 0 c).before 9 t e9) ((dats m 0 c).before 10 t e10) ((dats m 0 c).before 11 t e11) d13 d14 d15 d16 d17)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [S0]; · iexact S0
  isplitl [S1]; · iexact S1
  isplitl [S2]; · iexact S2
  isplitl [S3]; · iexact S3
  isplitl [S4]; · iexact S4
  iintro ⟨W0, W1, W2, W3, W4, W5, W6, W7, W8, W9, W10, W11, S0, S1, S2, S3, S4⟩
  rw [hT]
  isplitl [S0 S1 S2 S3 S4 Hg]
  · isplitl [S0 S1 S2 S3 S4]
    · isplitl [S0]; · iexact S0
      isplitl [S1]; · iexact S1
      isplitl [S2]; · iexact S2
      isplitl [S3]; · iexact S3
      iexists _; isplitr; swap; · iexact S4
      ipureintro
      exact hs
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexists e9; iexact W9
  isplitl [W10]; · iexists e10; iexact W10
  iexact W11

/-- The body at a point that is neither first nor last. -/
theorem bodyMid (c : Dev nD) (t : Fin cfg0.N) (h0 : t.val ≠ 0) (h15 : t.val ≠ 15) :
    bodyPre m c t ⊢ wp Idealize.ShloMosaic.frame (wpE (defs₀ (F := Ideal)) Variants.none (c : Thread nD τ) none) Set.univ (bodyAt0 t) (fun _ => bodyPost m c t) := by
  obtain ⟨n, hn⟩ : ∃ n, t.val = n + 1 := ⟨t.val - 1, by omega⟩
  unfold bodyPre bodyPost bodyAt0
  rw [leaves_mid m (w := 9) c t (idle0_9 t h15) (noflush0_9 t h15), leaves_mid m (w := 10) c t (idle0_10 t h15) (noflush0_10 t h15), show (dats m 0 c).Φ t.succ = PhiV m c (t.val + 1) from rfl,
    show (dats m 0 c).owesAt () t.succ = (dats m 0 c).owesAt () t.castSucc from rfl, show (dats m 0 c).Φ t.castSucc = PhiV m c (n + 1) from (show PhiV m c t.val = _ by rw [hn])]
  simp only [before0_0, before0_1, before0_2, before0_3, before0_4, before0_5, before0_6, after0_0, after0_1, after0_2, after0_3, after0_4, after0_5, after0_6, after0_7, after0_8, after0_11]
  unfold PhiV
  iintro ⟨⟨⟨⟨%d13, S0⟩, ⟨%d14, S1⟩, ⟨%d15, S2⟩, S3, ⟨%d17, %hd, S4⟩⟩, Hg⟩, HO, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩⟩
  have hs := out_step m c t d17 (hn ▸ hd)
  iapply (runMid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (mt (cond1 t).1 h0) (mt (cond2 t).1 h15) (iblk m c 0 t) (iblk m c 1 t) (iblk m c 2 t) (iblk m c 3 t) (iblk m c 4 t) (iblk m c 5 t) (iblk m c 6 t) ((dats m 0 c).before 7 t e7) ((dats m 0 c).before 8 t e8) ((dats m 0 c).before 9 t e9) ((dats m 0 c).before 10 t e10) ((dats m 0 c).before 11 t e11) d13 d14 d15 (TA m c) d17)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [S0]; · iexact S0
  isplitl [S1]; · iexact S1
  isplitl [S2]; · iexact S2
  isplitl [S3]; · iexact S3
  isplitl [S4]; · iexact S4
  iintro ⟨W0, W1, W2, W3, W4, W5, W6, W7, W8, W9, W10, W11, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexists _; isplitr; swap; · iexact S4
      ipureintro
      exact hs
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexists e9; iexact W9
  isplitl [W10]; · iexists e10; iexact W10
  iexact W11

/-- The body at a point that is last. -/
theorem bodyLast (c : Dev nD) (t : Fin cfg0.N) (h15 : t.val = 15) :
    bodyPre m c t ⊢ wp Idealize.ShloMosaic.frame (wpE (defs₀ (F := Ideal)) Variants.none (c : Thread nD τ) none) Set.univ (bodyAt0 t) (fun _ => bodyPost m c t) := by
  obtain ⟨n, hn⟩ : ∃ n, t.val = n + 1 := ⟨t.val - 1, by omega⟩
  have h0 : t.val ≠ 0 := by omega
  unfold bodyPre bodyPost bodyAt0
  rw [leaves_last m (w := 9) c t (live0_9 t h15), leaves_last m (w := 10) c t (live0_10 t h15), show (dats m 0 c).Φ t.succ = PhiV m c (t.val + 1) from rfl,
    show (dats m 0 c).owesAt () t.succ = (dats m 0 c).owesAt () t.castSucc from rfl, show (dats m 0 c).Φ t.castSucc = PhiV m c (n + 1) from (show PhiV m c t.val = _ by rw [hn])]
  simp only [before0_0, before0_1, before0_2, before0_3, before0_4, before0_5, before0_6, after0_0, after0_1, after0_2, after0_3, after0_4, after0_5, after0_6, after0_7, after0_8, after0_9, after0_10, after0_11]
  unfold PhiV
  iintro ⟨⟨⟨⟨%d13, S0⟩, ⟨%d14, S1⟩, ⟨%d15, S2⟩, S3, ⟨%d17, %hd, S4⟩⟩, Hg⟩, HO, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩⟩
  have hs := out_step m c t d17 (hn ▸ hd)
  have hf : outI (nOf (iblk m c 0 t)) (TA m c) (hI (iblk m c 1 t) (iblk m c 2 t)) (pt (grid0.coords t)) d17 = tabO m c :=
    funext fun y => hs y (by have : (y 0).val < 16 := (y 0).isLt; omega)
  iapply (runLast c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (mt (cond1 t).1 h0) ((cond2 t).2 h15) (iblk m c 0 t) (iblk m c 1 t) (iblk m c 2 t) (iblk m c 3 t) (iblk m c 4 t) (iblk m c 5 t) (iblk m c 6 t) ((dats m 0 c).before 7 t e7) ((dats m 0 c).before 8 t e8) ((dats m 0 c).before 9 t e9) ((dats m 0 c).before 10 t e10) ((dats m 0 c).before 11 t e11) d13 d14 d15 (TA m c) d17)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [S0]; · iexact S0
  isplitl [S1]; · iexact S1
  isplitl [S2]; · iexact S2
  isplitl [S3]; · iexact S3
  isplitl [S4]; · iexact S4
  iintro ⟨W0, W1, W2, W3, W4, W5, W6, W7, W8, W9, W10, W11, S0, S1, S2, S3, S4⟩
  rw [hf]
  isplitl [S0 S1 S2 S3 S4 Hg]
  · isplitl [S0 S1 S2 S3 S4]
    · isplitl [S0]; · iexact S0
      isplitl [S1]; · iexact S1
      isplitl [S2]; · iexact S2
      isplitl [S3]; · iexact S3
      iexists _; isplitr; swap; · iexact S4
      ipureintro
      exact hf ▸ hs
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  iexact W11

theorem sound_body (c : Dev nD) (t : Fin cfg0.N) :
    bodyPre m c t ⊢ wp Idealize.ShloMosaic.frame (wpE (defs₀ (F := Ideal)) Variants.none (c : Thread nD τ) none) Set.univ (bodyAt0 t) (fun _ => bodyPost m c t) := by
  by_cases h0 : t.val = 0
  · exact bodyFirst m c t h0
  by_cases h15 : t.val = 15
  · exact bodyLast m c t h15
  · exact bodyMid m c t h0 h15

/-- The body table's row at the point is the body as the launch spells it. -/
theorem defs₀_row (t : Fin cfg0.N) : defs₀ (F := Ideal) .tc cfg0.body (cfg0.bodyArgs t (cfg0.slots t)) = bodyAt0 t := by
  unfold defs₀; rw [Defs.onTc_tc]

/-- The launch's body obligation. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- From any memory with zero counters every weakly fair execution of @main terminates; every final state has each
    result array as the proof data says, and every other buffer as the host lines after the region leave it. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => .rfl) (hout := fun c => by
      rw [show (dats m 0 c).Φ (Fin.last cfg0.N) = PhiV m c (15 + 1) from rfl, PhiA0_eq]
      unfold PhiV
      iintro ⟨⟨S0, S1, S2, S3, ⟨%d, -, S4⟩⟩, Hg⟩
      isplitl [S0 S1 S2 S3 S4]
      · isplitl [S0]; · iexact S0
        isplitl [S1]; · iexact S1
        isplitl [S2]; · iexact S2
        isplitl [S3]; · iexists _; iexact S3
        iexists _; iexact S4
      iexact Hg) (hQ' := fun _ h => h)

end Cert.KernelIdeal.Val
-- ==== Proof.Closed.lean ====
/-
  The five results as functions of the seven arguments, on extended reals: the residual sum, the merged mean and
  reciprocal deviation of a row, the normalised row, the scale of a block of 128 lanes and the codes.
-/
module

public import proofs.«01_k».proof.Proof.Point

@[expose] public section

noncomputable section

namespace Cert.Closed

open Idealize.ShloMosaic
open Cert.KernelIdeal.Val (cnt gMean gRstd lane blkOf scaleI invI)

/-- An array of rank one read at its place. -/
abbrev at1 {a : ℕ} (X : (⟨1, ![a]⟩ : Shape).Idx → EReal) (i : Fin a) : EReal := X (ix1 i)
/-- An array of rank two read at its place. -/
abbrev at2 {a b : ℕ} (X : (⟨2, ![a, b]⟩ : Shape).Idx → EReal) (i : Fin a) (j : Fin b) : EReal := X (ix2 i j)
/-- An array of rank three read at its place. -/
abbrev at3 {a b c : ℕ} (X : (⟨3, ![a, b, c]⟩ : Shape).Idx → EReal) (i : Fin a) (j : Fin b) (k : Fin c) : EReal := X (ix3 i j k)
/-- An array of rank four read at its place. -/
abbrev at4 {a b c d : ℕ} (X : (⟨4, ![a, b, c, d]⟩ : Shape).Idx → EReal) (i : Fin a) (j : Fin b) (k : Fin c) (l : Fin d) : EReal := X (ix4 i j k l)

/-- The residual sum. -/
def gh (X R : Fin 2 → Fin 1024 → Fin 5120 → EReal) (b : Fin 2) (s : Fin 1024) (l : Fin 5120) : EReal := X b s l + R b s l

/-- The mean of a row. -/
def gmu (h : Fin 2 → Fin 1024 → Fin 5120 → EReal) (b : Fin 2) (s : Fin 1024) : EReal := Ideal.div (∑ l : Fin 5120, h b s l) cnt

/-- The sum of squared deviations of a row. -/
def gm2 (h : Fin 2 → Fin 1024 → Fin 5120 → EReal) (b : Fin 2) (s : Fin 1024) : EReal :=
  ∑ l : Fin 5120, (h b s l - gmu h b s) * (h b s l - gmu h b s)

/-- The peers' four means and four sums of squared deviations of a row. -/
def gp (PM PS : Fin 4 → Fin 2 → Fin 1024 → EReal) (b : Fin 2) (s : Fin 1024) (q : Fin 8) : EReal :=
  if hq : q.val < 4 then PM ⟨q.val, hq⟩ b s else PS ⟨q.val - 4, by have := q.isLt; omega⟩ b s

/-- The merged mean of a row. -/
def gmean (N : Fin 4 → EReal) (PM PS : Fin 4 → Fin 2 → Fin 1024 → EReal) (h : Fin 2 → Fin 1024 → Fin 5120 → EReal)
    (b : Fin 2) (s : Fin 1024) : EReal := gMean N (gp PM PS b s) (gmu h b s)

/-- The merged reciprocal deviation of a row. -/
def grstd (N : Fin 4 → EReal) (PM PS : Fin 4 → Fin 2 → Fin 1024 → EReal) (h : Fin 2 → Fin 1024 → Fin 5120 → EReal)
    (b : Fin 2) (s : Fin 1024) : EReal := gRstd N (gp PM PS b s) (gmu h b s) (gm2 h b s)

/-- The normalised row, with gain and offset. -/
def gy (h : Fin 2 → Fin 1024 → Fin 5120 → EReal) (mean rstd : Fin 2 → Fin 1024 → EReal) (G B : Fin 5120 → EReal)
    (b : Fin 2) (s : Fin 1024) (l : Fin 5120) : EReal := (h b s l - mean b s) * rstd b s * G l + B l

/-- The largest magnitude of a block of 128 lanes. -/
def gam (y : Fin 2 → Fin 1024 → Fin 5120 → EReal) (b : Fin 2) (s : Fin 1024) (j : Fin 40) : EReal :=
  Finset.univ.fold max ⊥ fun l : Fin 128 => max (y b s (lane j l)) (-(y b s (lane j l)))

/-- The scale of a block. -/
def gscale (y : Fin 2 → Fin 1024 → Fin 5120 → EReal) (b : Fin 2) (s : Fin 1024) (j : Fin 40) : EReal := scaleI (gam y b s j)

/-- The codes. -/
def gcode (y : Fin 2 → Fin 1024 → Fin 5120 → EReal) (b : Fin 2) (s : Fin 1024) (l : Fin 5120) : EReal :=
  min (Ideal.ofBits .f32 0x43E00000#32) (max (Ideal.ofBits .f32 0xC3E00000#32) (y b s l * invI (gam y b s (blkOf l))))

end Cert.Closed
-- ==== Proof.KVal1.lean ====
/-
  What the kernel leaves in its five result arrays, as functions of its arguments on extended reals.
-/
module

public import proofs.«01_k».proof.Proof.ValueRun
public import proofs.«01_k».proof.Proof.Closed
public import Idealize.ShloMosaic.Lib.StableHlo.ReadAt

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem
open Idealize.ShloMosaic.Pipeline (Dat Cfg Window cellOf)
open Cert.Closed

variable (m : (ℓ : Loc nD τ sig) → Buf (Elt Ideal) ℓ) (ρ : Dev nD → PrngReg)

/-- The arguments, read at their places. -/
abbrev aX (c : Dev nD) : Fin 2 → Fin 1024 → Fin 5120 → EReal := at3 (m (c, Proc.devRef .tc main_arg0))
abbrev aR (c : Dev nD) : Fin 2 → Fin 1024 → Fin 5120 → EReal := at3 (m (c, Proc.devRef .tc main_arg1))
abbrev aN (c : Dev nD) : Fin 4 → EReal := at1 (m (c, Proc.devRef .tc main_arg2))
abbrev aPM (c : Dev nD) : Fin 4 → Fin 2 → Fin 1024 → EReal := at3 (m (c, Proc.devRef .tc main_arg3))
abbrev aPS (c : Dev nD) : Fin 4 → Fin 2 → Fin 1024 → EReal := at3 (m (c, Proc.devRef .tc main_arg4))
abbrev aG (c : Dev nD) : Fin 5120 → EReal := at1 (m (c, Proc.devRef .tc main_arg5))
abbrev aB (c : Dev nD) : Fin 5120 → EReal := at1 (m (c, Proc.devRef .tc main_arg6))

/-- The sequence a flat row belongs to. -/
def rb (R : Fin 2048) : Fin 2 := ⟨R.val / 1024, by have := R.isLt; omega⟩
/-- The place of a flat row in its sequence. -/
def rs (R : Fin 2048) : Fin 1024 := ⟨R.val % 1024, by omega⟩
/-- The flat row of row `r` of tile `t`. -/
def row (t : Fin cfg0.N) (r : Fin 128) : Fin 2048 := ⟨128 * t.val + r.val, by have := t_lt t; have := r.isLt; omega⟩

theorem v0_at (c : Dev nD) (R : Fin 2048) (l : Fin 5120) : at2 (V m c main_v0) R l = aX m c (rb R) (rs R) l := by
  unfold V V0
  after_reads_at
  rfl

theorem v1_at (c : Dev nD) (R : Fin 2048) (l : Fin 5120) : at2 (V m c main_v1) R l = aR m c (rb R) (rs R) l := by
  unfold V V0
  after_reads_at
  rfl

theorem v2_at (c : Dev nD) (z : Fin 1) (l : Fin 5120) : at2 (V m c main_v2) z l = aG m c l := by
  unfold V V0
  after_reads_at
  rfl

theorem v3_at (c : Dev nD) (z : Fin 1) (l : Fin 5120) : at2 (V m c main_v3) z l = aB m c l := by
  unfold V V0
  after_reads_at
  rfl

theorem idx1 (t : Fin cfg0.N) : win0_1.index t 0 = t.val ∧ win0_1.index t 1 = 0 := by
  rcases fin_N0 t with rfl | rfl | rfl | rfl | rfl | rfl | rfl | rfl | rfl | rfl | rfl | rfl | rfl | rfl | rfl | rfl <;> decide
theorem idx2 (t : Fin cfg0.N) : win0_2.index t 0 = t.val ∧ win0_2.index t 1 = 0 := by
  rcases fin_N0 t with rfl | rfl | rfl | rfl | rfl | rfl | rfl | rfl | rfl | rfl | rfl | rfl | rfl | rfl | rfl | rfl <;> decide

theorem blk1_at (c : Dev nD) (t : Fin cfg0.N) (r : Fin 128) (l : Fin 5120) :
    at2 (iblk m c 1 t) r l = aX m c (rb (row t r)) (rs (row t r)) l := by
  refine Eq.trans ?_ (v0_at m c (row t r) l)
  have hi := idx1 t
  unfold iblk at2
  rw [View.read_apply]
  show V m c main_v0 _ = V m c main_v0 _
  congr 1
  funext a
  apply Fin.ext
  match a with
  | ⟨0, _⟩ => show win0_1.index t 0 * 128 + 1 * r.val = 128 * t.val + r.val; rw [hi.1]; omega
  | ⟨1, _⟩ => show win0_1.index t 1 * 5120 + 1 * l.val = l.val; rw [hi.2]; omega

theorem blk2_at (c : Dev nD) (t : Fin cfg0.N) (r : Fin 128) (l : Fin 5120) :
    at2 (iblk m c 2 t) r l = aR m c (rb (row t r)) (rs (row t r)) l := by
  refine Eq.trans ?_ (v1_at m c (row t r) l)
  have hi := idx2 t
  unfold iblk at2
  rw [View.read_apply]
  show V m c main_v1 _ = V m c main_v1 _
  congr 1
  funext a
  apply Fin.ext
  match a with
  | ⟨0, _⟩ => show win0_2.index t 0 * 128 + 1 * r.val = 128 * t.val + r.val; rw [hi.1]; omega
  | ⟨1, _⟩ => show win0_2.index t 1 * 5120 + 1 * l.val = l.val; rw [hi.2]; omega

theorem blk0_at (c : Dev nD) (t : Fin cfg0.N) (k : Fin 4) : at1 (iblk m c 0 t) k = aN m c k := by
  have hi : win0_0.index t 0 = 0 := rfl
  refine Eq.trans ?_ (congrFun (V_main_arg2 m c) (ix1 k))
  unfold iblk at1
  rw [View.read_apply]
  show V m c main_arg2 _ = V m c main_arg2 _
  congr 1
  funext a
  apply Fin.ext
  match a with
  | ⟨0, _⟩ => show win0_0.index t 0 * 4 + 1 * k.val = k.val; rw [hi]; omega

theorem blk3_at (c : Dev nD) (t : Fin cfg0.N) (k : Fin 4) (b : Fin 2) (s : Fin 1024) : at3 (iblk m c 3 t) k b s = aPM m c k b s := by
  refine Eq.trans ?_ (congrFun (V_main_arg3 m c) (ix3 k b s))
  unfold iblk at3
  rw [View.read_apply]
  show V m c main_arg3 _ = V m c main_arg3 _
  congr 1
  funext a
  apply Fin.ext
  match a with
  | ⟨0, _⟩ => show 0 * 4 + 1 * k.val = k.val; omega
  | ⟨1, _⟩ => show 0 * 2 + 1 * b.val = b.val; omega
  | ⟨2, _⟩ => show 0 * 1024 + 1 * s.val = s.val; omega

theorem blk4_at (c : Dev nD) (t : Fin cfg0.N) (k : Fin 4) (b : Fin 2) (s : Fin 1024) : at3 (iblk m c 4 t) k b s = aPS m c k b s := by
  refine Eq.trans ?_ (congrFun (V_main_arg4 m c) (ix3 k b s))
  unfold iblk at3
  rw [View.read_apply]
  show V m c main_arg4 _ = V m c main_arg4 _
  congr 1
  funext a
  apply Fin.ext
  match a with
  | ⟨0, _⟩ => show 0 * 4 + 1 * k.val = k.val; omega
  | ⟨1, _⟩ => show 0 * 2 + 1 * b.val = b.val; omega
  | ⟨2, _⟩ => show 0 * 1024 + 1 * s.val = s.val; omega

theorem blk5_at (c : Dev nD) (t : Fin cfg0.N) (z : Fin 1) (l : Fin 5120) : at2 (iblk m c 5 t) z l = aG m c l := by
  refine Eq.trans ?_ (v2_at m c z l)
  unfold iblk at2
  rw [View.read_apply]
  show V m c main_v2 _ = V m c main_v2 _
  congr 1
  funext a
  apply Fin.ext
  match a with
  | ⟨0, _⟩ => show 0 * 1 + 1 * z.val = z.val; omega
  | ⟨1, _⟩ => show 0 * 5120 + 1 * l.val = l.val; omega

theorem blk6_at (c : Dev nD) (t : Fin cfg0.N) (z : Fin 1) (l : Fin 5120) : at2 (iblk m c 6 t) z l = aB m c l := by
  refine Eq.trans ?_ (v3_at m c z l)
  unfold iblk at2
  rw [View.read_apply]
  show V m c main_v3 _ = V m c main_v3 _
  congr 1
  funext a
  apply Fin.ext
  match a with
  | ⟨0, _⟩ => show 0 * 1 + 1 * z.val = z.val; omega
  | ⟨1, _⟩ => show 0 * 5120 + 1 * l.val = l.val; omega

end Cert.KernelIdeal.Val
-- ==== Proof.KVal2.lean ====
/-
  What the kernel leaves in its five result arrays, as functions of its arguments on extended reals.
-/
module

public import proofs.«01_k».proof.Proof.ValueRun
public import proofs.«01_k».proof.Proof.KVal1
public import Idealize.ShloMosaic.Lib.StableHlo.ReadAt

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem
open Idealize.ShloMosaic.Pipeline (Dat Cfg Window cellOf)
open Cert.Closed

variable (m : (ℓ : Loc nD τ sig) → Buf (Elt Ideal) ℓ) (ρ : Dev nD → PrngReg)

/-- The residual sum, the merged statistics and the normalised rows of the arguments. -/
def kH (c : Dev nD) : Fin 2 → Fin 1024 → Fin 5120 → EReal := gh (aX m c) (aR m c)
def kM (c : Dev nD) : Fin 2 → Fin 1024 → EReal := gmean (aN m c) (aPM m c) (aPS m c) (kH m c)
def kD (c : Dev nD) : Fin 2 → Fin 1024 → EReal := grstd (aN m c) (aPM m c) (aPS m c) (kH m c)
def kY (c : Dev nD) : Fin 2 → Fin 1024 → Fin 5120 → EReal := gy (kH m c) (kM m c) (kD m c) (aG m c) (aB m c)

theorem hb_at (c : Dev nD) (t : Fin cfg0.N) (r : Fin 128) (l : Fin 5120) :
    hb m c t (ix2 r l) = kH m c (rb (row t r)) (rs (row t r)) l := by
  have h1 := blk1_at m c t r l
  have h2 := blk2_at m c t r l
  show at2 (iblk m c 1 t) r l + at2 (iblk m c 2 t) r l = _
  exact congrArg₂ (· + ·) h1 h2

theorem muI_at (c : Dev nD) (t : Fin cfg0.N) (r : Fin 128) : muI (hb m c t) r = gmu (kH m c) (rb (row t r)) (rs (row t r)) := by
  unfold muI gmu
  rw [Finset.sum_congr rfl fun l _ => hb_at m c t r l]
  rfl

theorem m2I_at (c : Dev nD) (t : Fin cfg0.N) (r : Fin 128) : m2I (hb m c t) r = gm2 (kH m c) (rb (row t r)) (rs (row t r)) := by
  unfold m2I gm2
  refine Finset.sum_congr rfl fun l _ => ?_
  rw [hb_at m c t r l, muI_at m c t r]

theorem tab_at (c : Dev nD) (t : Fin cfg0.N) (i : Fin 16) (hi : i.val = t.val) (q : Fin 8) (r : Fin 128) :
    TA m c (ix3 i q r) = gp (aPM m c) (aPS m c) (rb (row t r)) (rs (row t r)) q := by
  have ht := t_lt t
  have eb : ∀ h : i.val / 8 < 2, (⟨i.val / 8, h⟩ : Fin 2) = rb (row t r) := fun h =>
    Fin.ext (by show i.val / 8 = (128 * t.val + r.val) / 1024; rw [hi]; omega)
  have es : ∀ h : 128 * (i.val % 8) + r.val < 1024, (⟨128 * (i.val % 8) + r.val, h⟩ : Fin 1024) = rs (row t r) := fun h =>
    Fin.ext (by show 128 * (i.val % 8) + r.val = (128 * t.val + r.val) % 1024; rw [hi]; omega)
  have hi2 : i.val / 8 < 2 := by omega
  have hi3 : 128 * (i.val % 8) + r.val < 1024 := by omega
  unfold TA tabI gp
  show (if h : q.val < 4 then at3 (iblk m c 3 t0_0) (⟨q.val, h⟩ : Fin 4) (⟨i.val / 8, hi2⟩ : Fin 2) (⟨128 * (i.val % 8) + r.val, hi3⟩ : Fin 1024)
    else at3 (iblk m c 4 t0_0) (⟨q.val - 4, by have := q.isLt; omega⟩ : Fin 4) (⟨i.val / 8, hi2⟩ : Fin 2) (⟨128 * (i.val % 8) + r.val, hi3⟩ : Fin 1024)) = _
  rw [eb, es]
  split
  · exact blk3_at m c t0_0 _ _ _
  · exact blk4_at m c t0_0 _ _ _

theorem n_at (c : Dev nD) (t : Fin cfg0.N) : nOf (iblk m c 0 t) = aN m c := by
  funext k
  exact blk0_at m c t k

theorem gmP_at (c : Dev nD) (t : Fin cfg0.N) (i : Fin 16) (hi : i.val = t.val) (r : Fin 128) :
    gmP (nOf (iblk m c 0 t)) (TA m c) (hb m c t) i r = kM m c (rb (row t r)) (rs (row t r)) := by
  unfold gmP kM gmean
  rw [n_at m c t, muI_at m c t r]
  congr 1
  funext q
  exact tab_at m c t i hi q r

theorem grP_at (c : Dev nD) (t : Fin cfg0.N) (i : Fin 16) (hi : i.val = t.val) (r : Fin 128) :
    grP (nOf (iblk m c 0 t)) (TA m c) (hb m c t) i r = kD m c (rb (row t r)) (rs (row t r)) := by
  unfold grP kD grstd
  rw [n_at m c t, muI_at m c t r, m2I_at m c t r]
  congr 1
  funext q
  exact tab_at m c t i hi q r

theorem Yb_at (c : Dev nD) (t : Fin cfg0.N) (r : Fin 128) (l : Fin 5120) :
    Yb m c t (ix2 r l) = kY m c (rb (row t r)) (rs (row t r)) l := by
  have h1 := gmP_at m c t (pt (grid0.coords t)) (pt_coords t) r
  have h2 := grP_at m c t (pt (grid0.coords t)) (pt_coords t) r
  have h3 := hb_at m c t r l
  have h4 := blk5_at m c t 0 l
  have h5 := blk6_at m c t 0 l
  unfold Yb ptY yI kY gy
  show (hb m c t (ix2 r l) - stI (nOf (iblk m c 0 t)) (TA m c) (hb m c t) (pt (grid0.coords t)) (ix2 r 0))
      * stI (nOf (iblk m c 0 t)) (TA m c) (hb m c t) (pt (grid0.coords t)) (ix2 r 1) * at2 (iblk m c 5 t) 0 l + at2 (iblk m c 6 t) 0 l = _
  rw [h3, h4, h5]
  have e0 : stI (nOf (iblk m c 0 t)) (TA m c) (hb m c t) (pt (grid0.coords t)) (ix2 r 0) = kM m c (rb (row t r)) (rs (row t r)) := by
    rw [← h1]; rfl
  have e1 : stI (nOf (iblk m c 0 t)) (TA m c) (hb m c t) (pt (grid0.coords t)) (ix2 r 1) = kD m c (rb (row t r)) (rs (row t r)) := by
    rw [← h2]; rfl
  rw [e0, e1]

theorem amax_at (c : Dev nD) (t : Fin cfg0.N) (r : Fin 128) (j : Fin 40) :
    amaxI (Yb m c t) r j = gam (kY m c) (rb (row t r)) (rs (row t r)) j := by
  unfold amaxI gam
  congr 1
  funext l
  rw [Yb_at m c t r (lane j l)]

/-- The five arrays, flat. -/
def G7 (c : Dev nD) : S2048x5120.Idx → EReal := fun i => gcode (kY m c) (rb (i 0)) (rs (i 0)) (i 1)
def G8 (c : Dev nD) : S2048x40.Idx → EReal := fun i => gscale (kY m c) (rb (i 0)) (rs (i 0)) (i 1)
def G9 (c : Dev nD) : S2x1024.Idx → EReal := fun i => kM m c (i 0) (i 1)
def G10 (c : Dev nD) : S2x1024.Idx → EReal := fun i => kD m c (i 0) (i 1)
def G11 (c : Dev nD) : S2048x5120.Idx → EReal := fun i => kH m c (rb (i 0)) (rs (i 0)) (i 1)

theorem codes_at (c : Dev nD) (t : Fin cfg0.N) (r : Fin 128) (l : Fin 5120) :
    codesI (Yb m c t) (ix2 r l) = G7 m c (ix2 (row t r) l) := by
  show min _ (max _ (Yb m c t (ix2 r l) * invI (amaxI (Yb m c t) r (blkOf l)))) = _
  rw [Yb_at m c t r l, amax_at m c t r (blkOf l)]
  rfl

theorem scales_at (c : Dev nD) (t : Fin cfg0.N) (r : Fin 128) (j : Fin 40) :
    scalesI (Yb m c t) (ix2 r j) = G8 m c (ix2 (row t r) j) := by
  show scaleI (amaxI (Yb m c t) r j) = _
  rw [amax_at m c t r j]
  rfl

theorem res_at (c : Dev nD) (b : Fin 2) (s : Fin 1024) :
    resI (tabO m c) 0 (ix2 b s) = G9 m c (ix2 b s) ∧ resI (tabO m c) 1 (ix2 b s) = G10 m c (ix2 b s) := by
  have hb2 := b.isLt
  have hs2 := s.isLt
  have hp : 8 * b.val + s.val / 128 < 16 := by omega
  have hq : s.val % 128 < 128 := by omega
  have er : row (tpt (⟨8 * b.val + s.val / 128, hp⟩ : Fin 16)) (⟨s.val % 128, hq⟩ : Fin 128) = (⟨1024 * b.val + s.val, by omega⟩ : Fin 2048) :=
    Fin.ext (by show 128 * (8 * b.val + s.val / 128) + s.val % 128 = 1024 * b.val + s.val; omega)
  have eb : rb (⟨1024 * b.val + s.val, by omega⟩ : Fin 2048) = b := Fin.ext (by show (1024 * b.val + s.val) / 1024 = b.val; omega)
  have es : rs (⟨1024 * b.val + s.val, by omega⟩ : Fin 2048) = s := Fin.ext (by show (1024 * b.val + s.val) % 1024 = s.val; omega)
  have h1 := gmP_at m c (tpt (⟨8 * b.val + s.val / 128, hp⟩ : Fin 16)) (⟨8 * b.val + s.val / 128, hp⟩ : Fin 16) rfl (⟨s.val % 128, hq⟩ : Fin 128)
  have h2 := grP_at m c (tpt (⟨8 * b.val + s.val / 128, hp⟩ : Fin 16)) (⟨8 * b.val + s.val / 128, hp⟩ : Fin 16) rfl (⟨s.val % 128, hq⟩ : Fin 128)
  rw [er, eb, es] at h1 h2
  exact ⟨h1, h2⟩

end Cert.KernelIdeal.Val
-- ==== Proof.KVal3.lean ====
/-
  What the kernel leaves in its five result arrays, as functions of its arguments on extended reals.
-/
module

public import proofs.«01_k».proof.Proof.ValueRun
public import proofs.«01_k».proof.Proof.KVal2
public import Idealize.ShloMosaic.Lib.StableHlo.ReadAt

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem
open Idealize.ShloMosaic.Pipeline (Dat Cfg Window cellOf)
open Cert.Closed

variable (m : (ℓ : Loc nD τ sig) → Buf (Elt Ideal) ℓ) (ρ : Dev nD → PrngReg)

theorem idx7 (t : Fin cfg0.N) : win0_7.index t 0 = t.val ∧ win0_7.index t 1 = 0 := by
  rcases fin_N0 t with rfl | rfl | rfl | rfl | rfl | rfl | rfl | rfl | rfl | rfl | rfl | rfl | rfl | rfl | rfl | rfl <;> decide

theorem xs7 (t : Fin cfg0.N) : win0_7.xsize (grid0.coords t) 0 = 128 ∧ win0_7.xsize (grid0.coords t) 1 = 5120 := by
  rcases fin_N0 t with rfl | rfl | rfl | rfl | rfl | rfl | rfl | rfl | rfl | rfl | rfl | rfl | rfl | rfl | rfl | rfl <;> exact ⟨by decide +kernel, by decide +kernel⟩

/-- Tile `t` writes its rows of the array of window 7. -/
theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  have hi := idx7 t
  funext j
  rw [View.read_apply]
  refine Eq.trans ?_ ((codes_at m c t (⟨(j 0).val, (j 0).isLt⟩ : Fin 128) (⟨(j 1).val, (j 1).isLt⟩ : Fin 5120)).trans ?_)
  · show (codesI (Yb m c t)) _ = (codesI (Yb m c t)) _
    congr 1
    funext a
    apply Fin.ext
    match a with
    | ⟨0, _⟩ => rfl
    | ⟨1, _⟩ => rfl
  · show G7 m c _ = G7 m c _
    congr 1
    funext a
    apply Fin.ext
    match a with
    | ⟨0, _⟩ => show 128 * t.val + (j 0).val = win0_7.index t 0 * 128 + 1 * (j 0).val; rw [hi.1]; omega
    | ⟨1, _⟩ => show (j 1).val = win0_7.index t 1 * 5120 + 1 * (j 1).val; rw [hi.2]; omega

/-- So the array of window 7 ends at its closed form. -/
theorem final7 (c : Dev nD) : (dats m 0 c).arrAt 7 cfg0.N = G7 m c :=
  (dats m 0 c).arrAt_eq_of_cover 7 (G7 m c) (fun t _ => flushed7 m c t) fun i =>
    ⟨⟨(i 0 : Nat) / 128, by have h0 : (i 0 : Nat) < 2048 := (i 0).isLt; rw [show cfg0.N = 16 from N_0]; omega⟩, flush0_7 _, by
      have h0 : (i 0 : Nat) < 2048 := (i 0).isLt
      have h1 : (i 1 : Nat) < 5120 := (i 1).isLt
      generalize ht : (⟨(i 0 : Nat) / 128, _⟩ : Fin cfg0.N) = t
      have hv : (i 0 : Nat) / 128 = t.val := congrArg Fin.val ht
      have hi := idx7 t
      have hx := xs7 t
      show i ∈ ((View.whole main_v4_0).slice (win0_7.rect t)).set
      rw [View.set_slice_whole, Rect.mem_set_unit]
      intro a
      match a with
      | ⟨0, _⟩ =>
        show win0_7.index t 0 * 128 ≤ (i 0 : Nat) ∧ (i 0 : Nat) < win0_7.index t 0 * 128 + win0_7.xsize (grid0.coords t) 0
        rw [hi.1, hx.1]; omega
      | ⟨1, _⟩ =>
        show win0_7.index t 1 * 5120 ≤ (i 1 : Nat) ∧ (i 1 : Nat) < win0_7.index t 1 * 5120 + win0_7.xsize (grid0.coords t) 1
        rw [hi.2, hx.2]; omega⟩

theorem idx8 (t : Fin cfg0.N) : win0_8.index t 0 = t.val ∧ win0_8.index t 1 = 0 := by
  rcases fin_N0 t with rfl | rfl | rfl | rfl | rfl | rfl | rfl | rfl | rfl | rfl | rfl | rfl | rfl | rfl | rfl | rfl <;> decide

theorem xs8 (t : Fin cfg0.N) : win0_8.xsize (grid0.coords t) 0 = 128 ∧ win0_8.xsize (grid0.coords t) 1 = 40 := by
  rcases fin_N0 t with rfl | rfl | rfl | rfl | rfl | rfl | rfl | rfl | rfl | rfl | rfl | rfl | rfl | rfl | rfl | rfl <;> exact ⟨by decide +kernel, by decide +kernel⟩

/-- Tile `t` writes its rows of the array of window 8. -/
theorem flushed8 (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  have hi := idx8 t
  funext j
  rw [View.read_apply]
  refine Eq.trans ?_ ((scales_at m c t (⟨(j 0).val, (j 0).isLt⟩ : Fin 128) (⟨(j 1).val, (j 1).isLt⟩ : Fin 40)).trans ?_)
  · show (scalesI (Yb m c t)) _ = (scalesI (Yb m c t)) _
    congr 1
    funext a
    apply Fin.ext
    match a with
    | ⟨0, _⟩ => rfl
    | ⟨1, _⟩ => rfl
  · show G8 m c _ = G8 m c _
    congr 1
    funext a
    apply Fin.ext
    match a with
    | ⟨0, _⟩ => show 128 * t.val + (j 0).val = win0_8.index t 0 * 128 + 1 * (j 0).val; rw [hi.1]; omega
    | ⟨1, _⟩ => show (j 1).val = win0_8.index t 1 * 40 + 1 * (j 1).val; rw [hi.2]; omega

/-- So the array of window 8 ends at its closed form. -/
theorem final8 (c : Dev nD) : (dats m 0 c).arrAt 8 cfg0.N = G8 m c :=
  (dats m 0 c).arrAt_eq_of_cover 8 (G8 m c) (fun t _ => flushed8 m c t) fun i =>
    ⟨⟨(i 0 : Nat) / 128, by have h0 : (i 0 : Nat) < 2048 := (i 0).isLt; rw [show cfg0.N = 16 from N_0]; omega⟩, flush0_8 _, by
      have h0 : (i 0 : Nat) < 2048 := (i 0).isLt
      have h1 : (i 1 : Nat) < 40 := (i 1).isLt
      generalize ht : (⟨(i 0 : Nat) / 128, _⟩ : Fin cfg0.N) = t
      have hv : (i 0 : Nat) / 128 = t.val := congrArg Fin.val ht
      have hi := idx8 t
      have hx := xs8 t
      show i ∈ ((View.whole main_v4_1).slice (win0_8.rect t)).set
      rw [View.set_slice_whole, Rect.mem_set_unit]
      intro a
      match a with
      | ⟨0, _⟩ =>
        show win0_8.index t 0 * 128 ≤ (i 0 : Nat) ∧ (i 0 : Nat) < win0_8.index t 0 * 128 + win0_8.xsize (grid0.coords t) 0
        rw [hi.1, hx.1]; omega
      | ⟨1, _⟩ =>
        show win0_8.index t 1 * 40 ≤ (i 1 : Nat) ∧ (i 1 : Nat) < win0_8.index t 1 * 40 + win0_8.xsize (grid0.coords t) 1
        rw [hi.2, hx.2]; omega⟩

theorem hbG_at (c : Dev nD) (t : Fin cfg0.N) (r : Fin 128) (l : Fin 5120) : hb m c t (ix2 r l) = G11 m c (ix2 (row t r) l) :=
  hb_at m c t r l

theorem idx11 (t : Fin cfg0.N) : win0_11.index t 0 = t.val ∧ win0_11.index t 1 = 0 := by
  rcases fin_N0 t with rfl | rfl | rfl | rfl | rfl | rfl | rfl | rfl | rfl | rfl | rfl | rfl | rfl | rfl | rfl | rfl <;> decide

theorem xs11 (t : Fin cfg0.N) : win0_11.xsize (grid0.coords t) 0 = 128 ∧ win0_11.xsize (grid0.coords t) 1 = 5120 := by
  rcases fin_N0 t with rfl | rfl | rfl | rfl | rfl | rfl | rfl | rfl | rfl | rfl | rfl | rfl | rfl | rfl | rfl | rfl <;> exact ⟨by decide +kernel, by decide +kernel⟩

/-- Tile `t` writes its rows of the array of window 11. -/
theorem flushed11 (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  have hi := idx11 t
  funext j
  rw [View.read_apply]
  refine Eq.trans ?_ ((hbG_at m c t (⟨(j 0).val, (j 0).isLt⟩ : Fin 128) (⟨(j 1).val, (j 1).isLt⟩ : Fin 5120)).trans ?_)
  · show (hb m c t) _ = (hb m c t) _
    congr 1
    funext a
    apply Fin.ext
    match a with
    | ⟨0, _⟩ => rfl
    | ⟨1, _⟩ => rfl
  · show G11 m c _ = G11 m c _
    congr 1
    funext a
    apply Fin.ext
    match a with
    | ⟨0, _⟩ => show 128 * t.val + (j 0).val = win0_11.index t 0 * 128 + 1 * (j 0).val; rw [hi.1]; omega
    | ⟨1, _⟩ => show (j 1).val = win0_11.index t 1 * 5120 + 1 * (j 1).val; rw [hi.2]; omega

/-- So the array of window 11 ends at its closed form. -/
theorem final11 (c : Dev nD) : (dats m 0 c).arrAt 11 cfg0.N = G11 m c :=
  (dats m 0 c).arrAt_eq_of_cover 11 (G11 m c) (fun t _ => flushed11 m c t) fun i =>
    ⟨⟨(i 0 : Nat) / 128, by have h0 : (i 0 : Nat) < 2048 := (i 0).isLt; rw [show cfg0.N = 16 from N_0]; omega⟩, flush0_11 _, by
      have h0 : (i 0 : Nat) < 2048 := (i 0).isLt
      have h1 : (i 1 : Nat) < 5120 := (i 1).isLt
      generalize ht : (⟨(i 0 : Nat) / 128, _⟩ : Fin cfg0.N) = t
      have hv : (i 0 : Nat) / 128 = t.val := congrArg Fin.val ht
      have hi := idx11 t
      have hx := xs11 t
      show i ∈ ((View.whole main_v4_4).slice (win0_11.rect t)).set
      rw [View.set_slice_whole, Rect.mem_set_unit]
      intro a
      match a with
      | ⟨0, _⟩ =>
        show win0_11.index t 0 * 128 ≤ (i 0 : Nat) ∧ (i 0 : Nat) < win0_11.index t 0 * 128 + win0_11.xsize (grid0.coords t) 0
        rw [hi.1, hx.1]; omega
      | ⟨1, _⟩ =>
        show win0_11.index t 1 * 5120 ≤ (i 1 : Nat) ∧ (i 1 : Nat) < win0_11.index t 1 * 5120 + win0_11.xsize (grid0.coords t) 1
        rw [hi.2, hx.2]; omega⟩

/-- The last tile writes the whole array of window 9. -/
theorem flushed9 (c : Dev nD) (t : Fin cfg0.N) (hf : (cfg0.win 9).flush t = true) :
    (dats m 0 c).flushed 9 t = ((cfg0.win 9).blk t).view.read (Elt Ideal) (G9 m c) := by
  have hN : cfg0.N = 16 := N_0
  have h3 : t.val = 15 := by have := (flush0_9 t).mp hf; have := t.isLt; omega
  obtain rfl : t = t0_15 := Fin.ext h3
  have hG : resI (tabO m c) 0 = G9 m c := by
    funext y
    have h := (res_at m c (⟨(y 0).val, (y 0).isLt⟩ : Fin 2) (⟨(y 1).val, (y 1).isLt⟩ : Fin 1024)).1
    rwa [show ix2 (⟨(y 0).val, (y 0).isLt⟩ : Fin 2) (⟨(y 1).val, (y 1).isLt⟩ : Fin 1024) = y from funext fun a => by match a with | ⟨0, _⟩ => rfl | ⟨1, _⟩ => rfl] at h
  show (cfg0.win 9).cut (grid0.coords t0_15) ((dats m 0 c).after 9 t0_15) = _
  rw [after0_9, hG]
  have hz' : (fun a => win0_9.index t0_15 a * main_v4_2.ty.shape.size a) = fun _ => 0 := funext fun a => by fin_cases a <;> decide
  exact (Memref.read_access_unit_zero (Elt Ideal) main_v4_2 hz' (fun a => by rw [congrFun hz' a]; simp) (G9 m c)).symm

/-- So the array of window 9 ends at its closed form. -/
theorem final9 (c : Dev nD) : (dats m 0 c).arrAt 9 cfg0.N = G9 m c :=
  (dats m 0 c).arrAt_eq_of_cover 9 (G9 m c) (flushed9 m c) fun i =>
    ⟨t0_15, (flush0_9 t0_15).mpr rfl, by
      show i ∈ ((View.whole main_v4_2).slice (win0_9.rect t0_15)).set
      rw [View.set_slice_whole, Rect.mem_set_unit]
      intro a
      have h0 : (i 0 : Nat) < 2 := (i 0).isLt
      have h1 : (i 1 : Nat) < 1024 := (i 1).isLt
      match a with
      | ⟨0, _⟩ => show win0_9.index t0_15 0 * win0_9.size 0 ≤ (i 0 : Nat) ∧ (i 0 : Nat) < win0_9.index t0_15 0 * win0_9.size 0 + win0_9.xsize (grid0.coords t0_15) 0
                  rw [show win0_9.index t0_15 0 * win0_9.size 0 = 0 from by decide +kernel, show win0_9.xsize (grid0.coords t0_15) 0 = 2 from by decide +kernel]; omega
      | ⟨1, _⟩ => show win0_9.index t0_15 1 * win0_9.size 1 ≤ (i 1 : Nat) ∧ (i 1 : Nat) < win0_9.index t0_15 1 * win0_9.size 1 + win0_9.xsize (grid0.coords t0_15) 1
                  rw [show win0_9.index t0_15 1 * win0_9.size 1 = 0 from by decide +kernel, show win0_9.xsize (grid0.coords t0_15) 1 = 1024 from by decide +kernel]; omega⟩

/-- The last tile writes the whole array of window 10. -/
theorem flushed10 (c : Dev nD) (t : Fin cfg0.N) (hf : (cfg0.win 10).flush t = true) :
    (dats m 0 c).flushed 10 t = ((cfg0.win 10).blk t).view.read (Elt Ideal) (G10 m c) := by
  have hN : cfg0.N = 16 := N_0
  have h3 : t.val = 15 := by have := (flush0_10 t).mp hf; have := t.isLt; omega
  obtain rfl : t = t0_15 := Fin.ext h3
  have hG : resI (tabO m c) 1 = G10 m c := by
    funext y
    have h := (res_at m c (⟨(y 0).val, (y 0).isLt⟩ : Fin 2) (⟨(y 1).val, (y 1).isLt⟩ : Fin 1024)).2
    rwa [show ix2 (⟨(y 0).val, (y 0).isLt⟩ : Fin 2) (⟨(y 1).val, (y 1).isLt⟩ : Fin 1024) = y from funext fun a => by match a with | ⟨0, _⟩ => rfl | ⟨1, _⟩ => rfl] at h
  show (cfg0.win 10).cut (grid0.coords t0_15) ((dats m 0 c).after 10 t0_15) = _
  rw [after0_10, hG]
  have hz' : (fun a => win0_10.index t0_15 a * main_v4_3.ty.shape.size a) = fun _ => 0 := funext fun a => by fin_cases a <;> decide
  exact (Memref.read_access_unit_zero (Elt Ideal) main_v4_3 hz' (fun a => by rw [congrFun hz' a]; simp) (G10 m c)).symm

/-- So the array of window 10 ends at its closed form. -/
theorem final10 (c : Dev nD) : (dats m 0 c).arrAt 10 cfg0.N = G10 m c :=
  (dats m 0 c).arrAt_eq_of_cover 10 (G10 m c) (flushed10 m c) fun i =>
    ⟨t0_15, (flush0_10 t0_15).mpr rfl, by
      show i ∈ ((View.whole main_v4_3).slice (win0_10.rect t0_15)).set
      rw [View.set_slice_whole, Rect.mem_set_unit]
      intro a
      have h0 : (i 0 : Nat) < 2 := (i 0).isLt
      have h1 : (i 1 : Nat) < 1024 := (i 1).isLt
      match a with
      | ⟨0, _⟩ => show win0_10.index t0_15 0 * win0_10.size 0 ≤ (i 0 : Nat) ∧ (i 0 : Nat) < win0_10.index t0_15 0 * win0_10.size 0 + win0_10.xsize (grid0.coords t0_15) 0
                  rw [show win0_10.index t0_15 0 * win0_10.size 0 = 0 from by decide +kernel, show win0_10.xsize (grid0.coords t0_15) 0 = 2 from by decide +kernel]; omega
      | ⟨1, _⟩ => show win0_10.index t0_15 1 * win0_10.size 1 ≤ (i 1 : Nat) ∧ (i 1 : Nat) < win0_10.index t0_15 1 * win0_10.size 1 + win0_10.xsize (grid0.coords t0_15) 1
                  rw [show win0_10.index t0_15 1 * win0_10.size 1 = 0 from by decide +kernel, show win0_10.xsize (grid0.coords t0_15) 1 = 1024 from by decide +kernel]; omega⟩

end Cert.KernelIdeal.Val
-- ==== Proof.KVal4.lean ====
/-
  What the kernel leaves in its five result arrays, as functions of its arguments on extended reals.
-/
module

public import proofs.«01_k».proof.Proof.ValueRun
public import proofs.«01_k».proof.Proof.KVal3
public import Idealize.ShloMosaic.Lib.StableHlo.ReadAt

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem
open Idealize.ShloMosaic.Pipeline (Dat Cfg Window cellOf)
open Cert.Closed

variable (m : (ℓ : Loc nD τ sig) → Buf (Elt Ideal) ℓ) (ρ : Dev nD → PrngReg)

/-- An index of rank three is its coordinates. -/
theorem eta3 {a b d : ℕ} (i : (⟨3, ![a, b, d]⟩ : Shape).Idx) :
    ix3 (⟨(i 0).val, (i 0).isLt⟩ : Fin a) (⟨(i 1).val, (i 1).isLt⟩ : Fin b) (⟨(i 2).val, (i 2).isLt⟩ : Fin d) = i :=
  funext fun q => by match q with | ⟨0, _⟩ => rfl | ⟨1, _⟩ => rfl | ⟨2, _⟩ => rfl

theorem arr7 (c : Dev nD) : (Pipeline.withArrays (cfgs (0 : Fin 1)).spec c (V0 m c) fun w => (dats m 0 c).arrAt w (cfgs (0 : Fin 1)).N) (Proc.devRef .tc main_v4_0) = G7 m c :=
  (Pipeline.withArrays_arr spec0 (by decide) c (V0 m c) (fun w => (dats m 0 c).arrAt w cfg0.N) 7).trans (final7 m c)

/-- The array returned from window 7, at its places. -/
theorem tail5_at (c : Dev nD) (b : Fin 2) (s : Fin 1024) (l : Fin 5120) :
    at3 (Pipeline.afterTail₀ cfgs (dats m) 0 (V0 m) [hostOps1] c main_v5) b s l = gcode (kY m c) b s l := by
  have hA := arr7 m c
  unfold Pipeline.afterTail₀
  generalize (Pipeline.withArrays (cfgs (0 : Fin 1)).spec c (V0 m c) fun w => (dats m 0 c).arrAt w (cfgs (0 : Fin 1)).N) = U at hA ⊢
  have hb : rb (⟨b.val * 1024 + s.val, by have := b.isLt; have := s.isLt; omega⟩ : Fin 2048) = b := Fin.ext (by show (b.val * 1024 + s.val) / 1024 = b.val; have := s.isLt; omega)
  have hs : rs (⟨b.val * 1024 + s.val, by have := b.isLt; have := s.isLt; omega⟩ : Fin 2048) = s := Fin.ext (by show (b.val * 1024 + s.val) % 1024 = s.val; have := s.isLt; omega)
  have e : at3 (StableHlo.after ([hostOps1] : List (List (HloOp τ sig (Elt Ideal)))).flatten U (Proc.devRef .tc main_v5)) b s l
      = at2 (U (Proc.devRef .tc main_v4_0)) (⟨b.val * 1024 + s.val, by have := b.isLt; have := s.isLt; omega⟩ : Fin 2048) l := by
    after_reads_at
    rfl
  rw [e, hA]
  show gcode (kY m c) (rb (⟨b.val * 1024 + s.val, _⟩ : Fin 2048)) (rs (⟨b.val * 1024 + s.val, _⟩ : Fin 2048)) l = _
  rw [hb, hs]

theorem arr8 (c : Dev nD) : (Pipeline.withArrays (cfgs (0 : Fin 1)).spec c (V0 m c) fun w => (dats m 0 c).arrAt w (cfgs (0 : Fin 1)).N) (Proc.devRef .tc main_v4_1) = G8 m c :=
  (Pipeline.withArrays_arr spec0 (by decide) c (V0 m c) (fun w => (dats m 0 c).arrAt w cfg0.N) 8).trans (final8 m c)

/-- The array returned from window 8, at its places. -/
theorem tail6_at (c : Dev nD) (b : Fin 2) (s : Fin 1024) (l : Fin 40) :
    at3 (Pipeline.afterTail₀ cfgs (dats m) 0 (V0 m) [hostOps1] c main_v6) b s l = gscale (kY m c) b s l := by
  have hA := arr8 m c
  unfold Pipeline.afterTail₀
  generalize (Pipeline.withArrays (cfgs (0 : Fin 1)).spec c (V0 m c) fun w => (dats m 0 c).arrAt w (cfgs (0 : Fin 1)).N) = U at hA ⊢
  have hb : rb (⟨b.val * 1024 + s.val, by have := b.isLt; have := s.isLt; omega⟩ : Fin 2048) = b := Fin.ext (by show (b.val * 1024 + s.val) / 1024 = b.val; have := s.isLt; omega)
  have hs : rs (⟨b.val * 1024 + s.val, by have := b.isLt; have := s.isLt; omega⟩ : Fin 2048) = s := Fin.ext (by show (b.val * 1024 + s.val) % 1024 = s.val; have := s.isLt; omega)
  have e : at3 (StableHlo.after ([hostOps1] : List (List (HloOp τ sig (Elt Ideal)))).flatten U (Proc.devRef .tc main_v6)) b s l
      = at2 (U (Proc.devRef .tc main_v4_1)) (⟨b.val * 1024 + s.val, by have := b.isLt; have := s.isLt; omega⟩ : Fin 2048) l := by
    after_reads_at
    rfl
  rw [e, hA]
  show gscale (kY m c) (rb (⟨b.val * 1024 + s.val, _⟩ : Fin 2048)) (rs (⟨b.val * 1024 + s.val, _⟩ : Fin 2048)) l = _
  rw [hb, hs]

theorem arr11 (c : Dev nD) : (Pipeline.withArrays (cfgs (0 : Fin 1)).spec c (V0 m c) fun w => (dats m 0 c).arrAt w (cfgs (0 : Fin 1)).N) (Proc.devRef .tc main_v4_4) = G11 m c :=
  (Pipeline.withArrays_arr spec0 (by decide) c (V0 m c) (fun w => (dats m 0 c).arrAt w cfg0.N) 11).trans (final11 m c)

/-- The array returned from window 11, at its places. -/
theorem tail7_at (c : Dev nD) (b : Fin 2) (s : Fin 1024) (l : Fin 5120) :
    at3 (Pipeline.afterTail₀ cfgs (dats m) 0 (V0 m) [hostOps1] c main_v7) b s l = kH m c b s l := by
  have hA := arr11 m c
  unfold Pipeline.afterTail₀
  generalize (Pipeline.withArrays (cfgs (0 : Fin 1)).spec c (V0 m c) fun w => (dats m 0 c).arrAt w (cfgs (0 : Fin 1)).N) = U at hA ⊢
  have hb : rb (⟨b.val * 1024 + s.val, by have := b.isLt; have := s.isLt; omega⟩ : Fin 2048) = b := Fin.ext (by show (b.val * 1024 + s.val) / 1024 = b.val; have := s.isLt; omega)
  have hs : rs (⟨b.val * 1024 + s.val, by have := b.isLt; have := s.isLt; omega⟩ : Fin 2048) = s := Fin.ext (by show (b.val * 1024 + s.val) % 1024 = s.val; have := s.isLt; omega)
  have e : at3 (StableHlo.after ([hostOps1] : List (List (HloOp τ sig (Elt Ideal)))).flatten U (Proc.devRef .tc main_v7)) b s l
      = at2 (U (Proc.devRef .tc main_v4_4)) (⟨b.val * 1024 + s.val, by have := b.isLt; have := s.isLt; omega⟩ : Fin 2048) l := by
    after_reads_at
    rfl
  rw [e, hA]
  show kH m c (rb (⟨b.val * 1024 + s.val, _⟩ : Fin 2048)) (rs (⟨b.val * 1024 + s.val, _⟩ : Fin 2048)) l = _
  rw [hb, hs]

/-- The kernel's run: its five results in closed form, its arguments unchanged. -/
theorem run_closed : θ_run defs (onTc (τ := τ) (main (F := Ideal))) ⟨m, fun _ => 0, ρ⟩ fun r => ∀ c : Dev nD,
      r.2.mem ((c : Thread nD τ).loc main_v5) = (fun i : S2x1024x5120.Idx => gcode (kY m c) (i 0) (i 1) (i 2))
      ∧ r.2.mem ((c : Thread nD τ).loc main_v6) = (fun i : S2x1024x40.Idx => gscale (kY m c) (i 0) (i 1) (i 2))
      ∧ r.2.mem ((c : Thread nD τ).loc main_v4_2) = (fun i : S2x1024.Idx => kM m c (i 0) (i 1))
      ∧ r.2.mem ((c : Thread nD τ).loc main_v4_3) = (fun i : S2x1024.Idx => kD m c (i 0) (i 1))
      ∧ r.2.mem ((c : Thread nD τ).loc main_v7) = (fun i : S2x1024x5120.Idx => kH m c (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r hr c => by
    have h := hr.1
    refine ⟨?_, ?_, ?_, ?_, ?_, ?_, ?_, ?_, ?_, ?_, ?_, ?_⟩
    · refine ((h c).2 main_v5 (Pipeline.mem_restRefs_of main_v5 (by decide) (by decide))).trans (funext fun i => ?_)
      have e := tail5_at m c (⟨(i 0).val, (i 0).isLt⟩ : Fin 2) (⟨(i 1).val, (i 1).isLt⟩ : Fin 1024) (⟨(i 2).val, (i 2).isLt⟩ : Fin 5120)
      unfold at3 at e
      rwa [eta3 i] at e
    · refine ((h c).2 main_v6 (Pipeline.mem_restRefs_of main_v6 (by decide) (by decide))).trans (funext fun i => ?_)
      have e := tail6_at m c (⟨(i 0).val, (i 0).isLt⟩ : Fin 2) (⟨(i 1).val, (i 1).isLt⟩ : Fin 1024) (⟨(i 2).val, (i 2).isLt⟩ : Fin 40)
      unfold at3 at e
      rwa [eta3 i] at e
    · exact ((h c).1 9).trans (final9 m c)
    · exact ((h c).1 10).trans (final10 m c)
    · refine ((h c).2 main_v7 (Pipeline.mem_restRefs_of main_v7 (by decide) (by decide))).trans (funext fun i => ?_)
      have e := tail7_at m c (⟨(i 0).val, (i 0).isLt⟩ : Fin 2) (⟨(i 1).val, (i 1).isLt⟩ : Fin 1024) (⟨(i 2).val, (i 2).isLt⟩ : Fin 5120)
      unfold at3 at e
      rwa [eta3 i] at e
    · exact ((h c).2 main_arg0 (Pipeline.mem_restRefs_of main_arg0 (by decide) (by decide))).trans (W_main_arg0 m (dats m) c)
    · exact ((h c).2 main_arg1 (Pipeline.mem_restRefs_of main_arg1 (by decide) (by decide))).trans (W_main_arg1 m (dats m) c)
    · exact ((h c).1 0).trans (((dats m 0 c).arrAt_in 0 rfl _).trans ((A_eq m c 0).trans (V_main_arg2 m c)))
    · exact ((h c).1 3).trans (((dats m 0 c).arrAt_in 3 rfl _).trans ((A_eq m c 3).trans (V_main_arg3 m c)))
    · exact ((h c).1 4).trans (((dats m 0 c).arrAt_in 4 rfl _).trans ((A_eq m c 4).trans (V_main_arg4 m c)))
    · exact ((h c).2 main_arg5 (Pipeline.mem_restRefs_of main_arg5 (by decide) (by decide))).trans (W_main_arg5 m (dats m) c)
    · exact ((h c).2 main_arg6 (Pipeline.mem_restRefs_of main_arg6 (by decide) (by decide))).trans (W_main_arg6 m (dats m) c))
    (run_main m ρ)

end Cert.KernelIdeal.Val
-- ==== Proof.RefStat.lean ====
/-
  What the reference computes before its cast, buffer by buffer, as functions of its arguments on extended reals.
-/
module

public import proofs.«01_k».proof.Proof.Gen.ReferenceIdeal.Frame
public import Idealize.ShloMosaic.Lib.StableHlo.ReadAt
public import proofs.«01_k».proof.Proof.Closed

@[expose] public section

set_option maxHeartbeats 4000000

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)
open Cert.Closed

variable (m : (ℓ : Loc nD τ sig) → Buf (Elt Ideal) ℓ)

/-- The arguments, read at their places. -/
abbrev aX (c : Dev nD) : Fin 2 → Fin 1024 → Fin 5120 → EReal := at3 (m (c, Proc.devRef .tc main_arg0))
abbrev aR (c : Dev nD) : Fin 2 → Fin 1024 → Fin 5120 → EReal := at3 (m (c, Proc.devRef .tc main_arg1))
abbrev aN (c : Dev nD) : Fin 4 → EReal := at1 (m (c, Proc.devRef .tc main_arg2))
abbrev aPM (c : Dev nD) : Fin 4 → Fin 2 → Fin 1024 → EReal := at3 (m (c, Proc.devRef .tc main_arg3))
abbrev aPS (c : Dev nD) : Fin 4 → Fin 2 → Fin 1024 → EReal := at3 (m (c, Proc.devRef .tc main_arg4))
abbrev aG (c : Dev nD) : Fin 5120 → EReal := at1 (m (c, Proc.devRef .tc main_arg5))
abbrev aB (c : Dev nD) : Fin 5120 → EReal := at1 (m (c, Proc.devRef .tc main_arg6))

/-- The residual sum. -/
theorem v5_eq (c : Dev nD) (b : Fin 2) (s : Fin 1024) (l : Fin 5120) :
    at3 (V m c main_v5) b s l = gh (aX m c) (aR m c) b s l := by
  unfold V gh
  after_reads_at

theorem v10_eq (c : Dev nD) (b : Fin 2) (s : Fin 1024)  :
    at2 (V m c main_v10) b s = Ideal.div (∑ j : Fin 40, ∑ l : Fin 128, at4 (V m c main_v7) b s j l) (Ideal.ofBits .f32 0x45A00000#32) := by
  unfold V
  after_reads_at

theorem v15_eq (c : Dev nD) (b : Fin 2) (s : Fin 1024)  :
    at2 (V m c main_v15) b s = ∑ j : Fin 40, ∑ l : Fin 128, (at4 (V m c main_v7) b s j l - at2 (V m c main_v10) b s) * (at4 (V m c main_v7) b s j l - at2 (V m c main_v10) b s) := by
  unfold V
  after_reads_at

theorem v84_eq (c : Dev nD) (b : Fin 2) (s : Fin 1024) :
    at2 (V m c main_v84) b s = Cert.KernelIdeal.Val.gMean (aN m c) (gp (aPM m c) (aPS m c) b s) (at2 (V m c main_v10) b s) := by
  unfold V
  after_reads_at
  rfl

theorem v96_eq (c : Dev nD) (b : Fin 2) (s : Fin 1024) :
    at2 (V m c main_v96) b s = Cert.KernelIdeal.Val.gRstd (aN m c) (gp (aPM m c) (aPS m c) b s) (at2 (V m c main_v10) b s) (at2 (V m c main_v15) b s) := by
  unfold V
  after_reads_at
  rfl

theorem v7_eq (c : Dev nD) (b : Fin 2) (s : Fin 1024) (j : Fin 40) (l : Fin 128) :
    at4 (V m c main_v7) b s j l = gh (aX m c) (aR m c) b s (Cert.KernelIdeal.Val.lane j l) := by
  have e : (⟨j.val * 128 + l.val, by have := j.isLt; have := l.isLt; omega⟩ : Fin 5120) = Cert.KernelIdeal.Val.lane j l :=
    Fin.ext (by show j.val * 128 + l.val = 128 * j.val + l.val; omega)
  unfold V gh
  rw [← e]
  after_reads_at

theorem v0_eq (c : Dev nD) (j : Fin 40) (l : Fin 128) :
    at2 (V m c main_v0) j l = aG m c (Cert.KernelIdeal.Val.lane j l) := by
  have e : (⟨j.val * 128 + l.val, by have := j.isLt; have := l.isLt; omega⟩ : Fin 5120) = Cert.KernelIdeal.Val.lane j l :=
    Fin.ext (by show j.val * 128 + l.val = 128 * j.val + l.val; omega)
  unfold V
  rw [← e]
  after_reads_at
  rfl

theorem v1_eq (c : Dev nD) (j : Fin 40) (l : Fin 128) :
    at2 (V m c main_v1) j l = aB m c (Cert.KernelIdeal.Val.lane j l) := by
  have e : (⟨j.val * 128 + l.val, by have := j.isLt; have := l.isLt; omega⟩ : Fin 5120) = Cert.KernelIdeal.Val.lane j l :=
    Fin.ext (by show j.val * 128 + l.val = 128 * j.val + l.val; omega)
  unfold V
  rw [← e]
  after_reads_at
  rfl

end Cert.ReferenceIdeal.Val
-- ==== Proof.RefTail.lean ====
/-
  What the reference computes before its cast, buffer by buffer, as functions of its arguments on extended reals.
-/
module

public import proofs.«01_k».proof.Proof.Gen.ReferenceIdeal.Frame
public import Idealize.ShloMosaic.Lib.StableHlo.ReadAt
public import proofs.«01_k».proof.Proof.Closed
public import Idealize.ShloMosaic.Lib.Pipeline.Frame

@[expose] public section

set_option maxHeartbeats 200000

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)
open Cert.Closed

variable (m : (ℓ : Loc nD τ sig) → Buf (Elt Ideal) ℓ)

/-- The operations from the normalisation on. -/
abbrev tail0 {F : FTy → Type} [FloatOps F] : List (HloOp τ sig (Elt F)) :=
  [ StableHlo.unary main_v84 main_v97 (broadcastInDim S2x1024x1x1 ![0, 1] bcast_S2x1024_S2x1024x1x1_0_1 : (⟨S2x1024, .f32⟩ : BufTy).Contents (Elt F) → (⟨S2x1024x1x1, .f32⟩ : BufTy).Contents (Elt F)),
    StableHlo.unary main_v97 main_v98 (broadcastInDim S2x1024x40x128 ![0, 1, 2, 3] bcast_S2x1024x1x1_S2x1024x40x128_0_1_2_3 : (⟨S2x1024x1x1, .f32⟩ : BufTy).Contents (Elt F) → (⟨S2x1024x40x128, .f32⟩ : BufTy).Contents (Elt F)),
    StableHlo.binary main_v7 main_v98 main_v99 (subf : (⟨S2x1024x40x128, .f32⟩ : BufTy).Contents (Elt F) → (⟨S2x1024x40x128, .f32⟩ : BufTy).Contents (Elt F) → (⟨S2x1024x40x128, .f32⟩ : BufTy).Contents (Elt F)),
    StableHlo.unary main_v96 main_v100 (broadcastInDim S2x1024x1x1 ![0, 1] bcast_S2x1024_S2x1024x1x1_0_1 : (⟨S2x1024, .f32⟩ : BufTy).Contents (Elt F) → (⟨S2x1024x1x1, .f32⟩ : BufTy).Contents (Elt F)),
    StableHlo.unary main_v100 main_v101 (broadcastInDim S2x1024x40x128 ![0, 1, 2, 3] bcast_S2x1024x1x1_S2x1024x40x128_0_1_2_3 : (⟨S2x1024x1x1, .f32⟩ : BufTy).Contents (Elt F) → (⟨S2x1024x40x128, .f32⟩ : BufTy).Contents (Elt F)),
    StableHlo.binary main_v99 main_v101 main_v102 (mulf : (⟨S2x1024x40x128, .f32⟩ : BufTy).Contents (Elt F) → (⟨S2x1024x40x128, .f32⟩ : BufTy).Contents (Elt F) → (⟨S2x1024x40x128, .f32⟩ : BufTy).Contents (Elt F)),
    StableHlo.unary main_v0 main_v103 (broadcastInDim S1x1x40x128 ![2, 3] bcast_S40x128_S1x1x40x128_2_3 : (⟨S40x128, .f32⟩ : BufTy).Contents (Elt F) → (⟨S1x1x40x128, .f32⟩ : BufTy).Contents (Elt F)),
    StableHlo.unary main_v103 main_v104 (broadcastInDim S2x1024x40x128 ![0, 1, 2, 3] bcast_S1x1x40x128_S2x1024x40x128_0_1_2_3 : (⟨S1x1x40x128, .f32⟩ : BufTy).Contents (Elt F) → (⟨S2x1024x40x128, .f32⟩ : BufTy).Contents (Elt F)),
    StableHlo.binary main_v102 main_v104 main_v105 (mulf : (⟨S2x1024x40x128, .f32⟩ : BufTy).Contents (Elt F) → (⟨S2x1024x40x128, .f32⟩ : BufTy).Contents (Elt F) → (⟨S2x1024x40x128, .f32⟩ : BufTy).Contents (Elt F)),
    StableHlo.unary main_v1 main_v106 (broadcastInDim S1x1x40x128 ![2, 3] bcast_S40x128_S1x1x40x128_2_3 : (⟨S40x128, .f32⟩ : BufTy).Contents (Elt F) → (⟨S1x1x40x128, .f32⟩ : BufTy).Contents (Elt F)),
    StableHlo.unary main_v106 main_v107 (broadcastInDim S2x1024x40x128 ![0, 1, 2, 3] bcast_S1x1x40x128_S2x1024x40x128_0_1_2_3 : (⟨S1x1x40x128, .f32⟩ : BufTy).Contents (Elt F) → (⟨S2x1024x40x128, .f32⟩ : BufTy).Contents (Elt F)),
    StableHlo.binary main_v105 main_v107 main_v108 (addf : (⟨S2x1024x40x128, .f32⟩ : BufTy).Contents (Elt F) → (⟨S2x1024x40x128, .f32⟩ : BufTy).Contents (Elt F) → (⟨S2x1024x40x128, .f32⟩ : BufTy).Contents (Elt F)),
    StableHlo.unary main_v108 main_v109 (Host.absf : (⟨S2x1024x40x128, .f32⟩ : BufTy).Contents (Elt F) → (⟨S2x1024x40x128, .f32⟩ : BufTy).Contents (Elt F)),
    StableHlo.nullary main_cst_6 (constant S_ .f32 0xFF800000#32),
    StableHlo.binary main_v109 main_cst_6 main_v110 ((fun x v => Host.reduce FloatOps.maximumf x v reducesTo_S2x1024x40x128_S2x1024x40_d3 h_S_) : (⟨S2x1024x40x128, .f32⟩ : BufTy).Contents (Elt F) → (⟨S_, .f32⟩ : BufTy).Contents (Elt F) → (⟨S2x1024x40, .f32⟩ : BufTy).Contents (Elt F)),
    StableHlo.nullary main_cst_7 (constant S_ .f32 0x3B124925#32),
    StableHlo.unary main_cst_7 main_v111 (broadcastInDim S2x1024x40 ![] bcast_S_S2x1024x40 : (⟨S_, .f32⟩ : BufTy).Contents (Elt F) → (⟨S2x1024x40, .f32⟩ : BufTy).Contents (Elt F)),
    StableHlo.binary main_v110 main_v111 main_v112 (mulf : (⟨S2x1024x40, .f32⟩ : BufTy).Contents (Elt F) → (⟨S2x1024x40, .f32⟩ : BufTy).Contents (Elt F) → (⟨S2x1024x40, .f32⟩ : BufTy).Contents (Elt F)),
    StableHlo.nullary main_v113 (iotaInDim S254 32 0),
    StableHlo.nullary main_c (constantI S_ 32 4294967170#32),
    StableHlo.unary main_c main_v114 (broadcastInDim S254 ![] bcast_S_S254 : (⟨S_, .i32⟩ : BufTy).Contents (Elt F) → (⟨S254, .i32⟩ : BufTy).Contents (Elt F)),
    StableHlo.binary main_v114 main_v113 main_v115 (addi : (⟨S254, .i32⟩ : BufTy).Contents (Elt F) → (⟨S254, .i32⟩ : BufTy).Contents (Elt F) → (⟨S254, .i32⟩ : BufTy).Contents (Elt F)),
    StableHlo.unary main_v115 main_v116 (sitofp .f32 : (⟨S254, .i32⟩ : BufTy).Contents (Elt F) → (⟨S254, .f32⟩ : BufTy).Contents (Elt F)),
    StableHlo.nullary main_cst_8 (constant S_ .f32 0x40000000#32),
    StableHlo.unary main_cst_8 main_v117 (broadcastInDim S254 ![] bcast_S_S254 : (⟨S_, .f32⟩ : BufTy).Contents (Elt F) → (⟨S254, .f32⟩ : BufTy).Contents (Elt F)),
    StableHlo.binary main_v117 main_v116 main_v118 (Host.powf : (⟨S254, .f32⟩ : BufTy).Contents (Elt F) → (⟨S254, .f32⟩ : BufTy).Contents (Elt F) → (⟨S254, .f32⟩ : BufTy).Contents (Elt F)),
    StableHlo.unary main_v112 main_v119 (broadcastInDim S2x1024x40x1 ![0, 1, 2] bcast_S2x1024x40_S2x1024x40x1_0_1_2 : (⟨S2x1024x40, .f32⟩ : BufTy).Contents (Elt F) → (⟨S2x1024x40x1, .f32⟩ : BufTy).Contents (Elt F)),
    StableHlo.unary main_v118 main_v120 (broadcastInDim S1x1x1x254 ![3] bcast_S254_S1x1x1x254_3 : (⟨S254, .f32⟩ : BufTy).Contents (Elt F) → (⟨S1x1x1x254, .f32⟩ : BufTy).Contents (Elt F)),
    StableHlo.unary main_v119 main_v121 (broadcastInDim S2x1024x40x254 ![0, 1, 2, 3] bcast_S2x1024x40x1_S2x1024x40x254_0_1_2_3 : (⟨S2x1024x40x1, .f32⟩ : BufTy).Contents (Elt F) → (⟨S2x1024x40x254, .f32⟩ : BufTy).Contents (Elt F)),
    StableHlo.unary main_v120 main_v122 (broadcastInDim S2x1024x40x254 ![0, 1, 2, 3] bcast_S1x1x1x254_S2x1024x40x254_0_1_2_3 : (⟨S1x1x1x254, .f32⟩ : BufTy).Contents (Elt F) → (⟨S2x1024x40x254, .f32⟩ : BufTy).Contents (Elt F)),
    StableHlo.binary main_v121 main_v122 main_v123 (cmpf .olt : (⟨S2x1024x40x254, .f32⟩ : BufTy).Contents (Elt F) → (⟨S2x1024x40x254, .f32⟩ : BufTy).Contents (Elt F) → (⟨S2x1024x40x254, .i1⟩ : BufTy).Contents (Elt F)),
    StableHlo.nullary main_cst_9 (constant S_ .f32 0x7F800000#32),
    StableHlo.TRef.unary (.of main_cst_9 : StableHlo.TRef sig ⟨S_, .f32⟩) (.of main_call0_v0 : StableHlo.TRef sig ⟨S_, .f32⟩) id,
    StableHlo.TRef.unary (.of main_v118 : StableHlo.TRef sig ⟨S254, .f32⟩) (.of main_call0_v1 : StableHlo.TRef sig ⟨S2x1024x40x254, .f32⟩) (broadcastInDim S2x1024x40x254 ![3] bcast_S254_S2x1024x40x254_3),
    StableHlo.TRef.unary (.of main_call0_v0 : StableHlo.TRef sig ⟨S_, .f32⟩) (.of main_call0_v2 : StableHlo.TRef sig ⟨S2x1024x40x254, .f32⟩) (broadcastInDim S2x1024x40x254 ![] bcast_S_S2x1024x40x254),
    StableHlo.TRef.ternary (.of main_v123 : StableHlo.TRef sig ⟨S2x1024x40x254, .i1⟩) (.of main_call0_v1 : StableHlo.TRef sig ⟨S2x1024x40x254, .f32⟩) (.of main_call0_v2 : StableHlo.TRef sig ⟨S2x1024x40x254, .f32⟩) (.of main_v124 : StableHlo.TRef sig ⟨S2x1024x40x254, .f32⟩) select,
    StableHlo.nullary main_cst_10 (constant S_ .f32 0x00800000#32),
    StableHlo.unary main_cst_10 main_v125 (broadcastInDim S2x1024x40 ![] bcast_S_S2x1024x40 : (⟨S_, .f32⟩ : BufTy).Contents (Elt F) → (⟨S2x1024x40, .f32⟩ : BufTy).Contents (Elt F)),
    StableHlo.binary main_v112 main_v125 main_v126 (cmpf .olt : (⟨S2x1024x40, .f32⟩ : BufTy).Contents (Elt F) → (⟨S2x1024x40, .f32⟩ : BufTy).Contents (Elt F) → (⟨S2x1024x40, .i1⟩ : BufTy).Contents (Elt F)),
    StableHlo.nullary main_cst_11 (constant S_ .f32 0x7E800000#32),
    StableHlo.unary main_cst_11 main_v127 (broadcastInDim S2x1024x40 ![] bcast_S_S2x1024x40 : (⟨S_, .f32⟩ : BufTy).Contents (Elt F) → (⟨S2x1024x40, .f32⟩ : BufTy).Contents (Elt F)),
    StableHlo.binary main_v112 main_v127 main_v128 (cmpf .oge : (⟨S2x1024x40, .f32⟩ : BufTy).Contents (Elt F) → (⟨S2x1024x40, .f32⟩ : BufTy).Contents (Elt F) → (⟨S2x1024x40, .i1⟩ : BufTy).Contents (Elt F)),
    StableHlo.binary main_v126 main_v128 main_v129 (ori : (⟨S2x1024x40, .i1⟩ : BufTy).Contents (Elt F) → (⟨S2x1024x40, .i1⟩ : BufTy).Contents (Elt F) → (⟨S2x1024x40, .i1⟩ : BufTy).Contents (Elt F)),
    StableHlo.nullary main_cst_12 (constant S_ .f32 0x7F800000#32),
    StableHlo.binary main_v124 main_cst_12 main_v130 ((fun x v => Host.reduce FloatOps.minimumf x v reducesTo_S2x1024x40x254_S2x1024x40_d3 h_S_) : (⟨S2x1024x40x254, .f32⟩ : BufTy).Contents (Elt F) → (⟨S_, .f32⟩ : BufTy).Contents (Elt F) → (⟨S2x1024x40, .f32⟩ : BufTy).Contents (Elt F)),
    StableHlo.nullary main_cst_13 (constant S_ .f32 0x3F800000#32),
    StableHlo.TRef.unary (.of main_cst_13 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S2x1024x40, .f32⟩) (broadcastInDim S2x1024x40 ![] bcast_S_S2x1024x40),
    StableHlo.TRef.ternary (.of main_v129 : StableHlo.TRef sig ⟨S2x1024x40, .i1⟩) (.of main_call1_v1 : StableHlo.TRef sig ⟨S2x1024x40, .f32⟩) (.of main_v130 : StableHlo.TRef sig ⟨S2x1024x40, .f32⟩) (.of main_v131 : StableHlo.TRef sig ⟨S2x1024x40, .f32⟩) select,
    StableHlo.nullary main_cst_14 (constant S_ .f32 0x3F800000#32),
    StableHlo.unary main_cst_14 main_v132 (broadcastInDim S2x1024x40 ![] bcast_S_S2x1024x40 : (⟨S_, .f32⟩ : BufTy).Contents (Elt F) → (⟨S2x1024x40, .f32⟩ : BufTy).Contents (Elt F)),
    StableHlo.binary main_v132 main_v131 main_v133 (Host.divf : (⟨S2x1024x40, .f32⟩ : BufTy).Contents (Elt F) → (⟨S2x1024x40, .f32⟩ : BufTy).Contents (Elt F) → (⟨S2x1024x40, .f32⟩ : BufTy).Contents (Elt F)),
    StableHlo.unary main_v133 main_v134 (broadcastInDim S2x1024x40x1 ![0, 1, 2] bcast_S2x1024x40_S2x1024x40x1_0_1_2 : (⟨S2x1024x40, .f32⟩ : BufTy).Contents (Elt F) → (⟨S2x1024x40x1, .f32⟩ : BufTy).Contents (Elt F)),
    StableHlo.unary main_v134 main_v135 (broadcastInDim S2x1024x40x128 ![0, 1, 2, 3] bcast_S2x1024x40x1_S2x1024x40x128_0_1_2_3 : (⟨S2x1024x40x1, .f32⟩ : BufTy).Contents (Elt F) → (⟨S2x1024x40x128, .f32⟩ : BufTy).Contents (Elt F)),
    StableHlo.binary main_v108 main_v135 main_v136 (mulf : (⟨S2x1024x40x128, .f32⟩ : BufTy).Contents (Elt F) → (⟨S2x1024x40x128, .f32⟩ : BufTy).Contents (Elt F) → (⟨S2x1024x40x128, .f32⟩ : BufTy).Contents (Elt F)),
    StableHlo.nullary main_cst_15 (constant S_ .f32 0xC3E00000#32),
    StableHlo.nullary main_cst_16 (constant S_ .f32 0x43E00000#32),
    StableHlo.TRef.unary (.of main_cst_15 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S2x1024x40x128, .f32⟩) (broadcastInDim S2x1024x40x128 ![] bcast_S_S2x1024x40x128),
    StableHlo.TRef.binary (.of main_call2_v1 : StableHlo.TRef sig ⟨S2x1024x40x128, .f32⟩) (.of main_v136 : StableHlo.TRef sig ⟨S2x1024x40x128, .f32⟩) (.of main_call2_v2 : StableHlo.TRef sig ⟨S2x1024x40x128, .f32⟩) maximumf,
    StableHlo.TRef.unary (.of main_cst_16 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S2x1024x40x128, .f32⟩) (broadcastInDim S2x1024x40x128 ![] bcast_S_S2x1024x40x128),
    StableHlo.TRef.binary (.of main_call2_v4 : StableHlo.TRef sig ⟨S2x1024x40x128, .f32⟩) (.of main_call2_v2 : StableHlo.TRef sig ⟨S2x1024x40x128, .f32⟩) (.of main_v137 : StableHlo.TRef sig ⟨S2x1024x40x128, .f32⟩) minimumf,
    StableHlo.reshape main_v137 main_v138 (rfl : (.f32 : EltTy) = .f32) shapeCasts_S2x1024x40x128_S2x1024x5120 ]

/-- The operations from the magnitudes of the normalised rows on. -/
abbrev tail1 {F : FTy → Type} [FloatOps F] : List (HloOp τ sig (Elt F)) :=
  [ StableHlo.unary main_v108 main_v109 (Host.absf : (⟨S2x1024x40x128, .f32⟩ : BufTy).Contents (Elt F) → (⟨S2x1024x40x128, .f32⟩ : BufTy).Contents (Elt F)),
    StableHlo.nullary main_cst_6 (constant S_ .f32 0xFF800000#32),
    StableHlo.binary main_v109 main_cst_6 main_v110 ((fun x v => Host.reduce FloatOps.maximumf x v reducesTo_S2x1024x40x128_S2x1024x40_d3 h_S_) : (⟨S2x1024x40x128, .f32⟩ : BufTy).Contents (Elt F) → (⟨S_, .f32⟩ : BufTy).Contents (Elt F) → (⟨S2x1024x40, .f32⟩ : BufTy).Contents (Elt F)),
    StableHlo.nullary main_cst_7 (constant S_ .f32 0x3B124925#32),
    StableHlo.unary main_cst_7 main_v111 (broadcastInDim S2x1024x40 ![] bcast_S_S2x1024x40 : (⟨S_, .f32⟩ : BufTy).Contents (Elt F) → (⟨S2x1024x40, .f32⟩ : BufTy).Contents (Elt F)),
    StableHlo.binary main_v110 main_v111 main_v112 (mulf : (⟨S2x1024x40, .f32⟩ : BufTy).Contents (Elt F) → (⟨S2x1024x40, .f32⟩ : BufTy).Contents (Elt F) → (⟨S2x1024x40, .f32⟩ : BufTy).Contents (Elt F)),
    StableHlo.nullary main_v113 (iotaInDim S254 32 0),
    StableHlo.nullary main_c (constantI S_ 32 4294967170#32),
    StableHlo.unary main_c main_v114 (broadcastInDim S254 ![] bcast_S_S254 : (⟨S_, .i32⟩ : BufTy).Contents (Elt F) → (⟨S254, .i32⟩ : BufTy).Contents (Elt F)),
    StableHlo.binary main_v114 main_v113 main_v115 (addi : (⟨S254, .i32⟩ : BufTy).Contents (Elt F) → (⟨S254, .i32⟩ : BufTy).Contents (Elt F) → (⟨S254, .i32⟩ : BufTy).Contents (Elt F)),
    StableHlo.unary main_v115 main_v116 (sitofp .f32 : (⟨S254, .i32⟩ : BufTy).Contents (Elt F) → (⟨S254, .f32⟩ : BufTy).Contents (Elt F)),
    StableHlo.nullary main_cst_8 (constant S_ .f32 0x40000000#32),
    StableHlo.unary main_cst_8 main_v117 (broadcastInDim S254 ![] bcast_S_S254 : (⟨S_, .f32⟩ : BufTy).Contents (Elt F) → (⟨S254, .f32⟩ : BufTy).Contents (Elt F)),
    StableHlo.binary main_v117 main_v116 main_v118 (Host.powf : (⟨S254, .f32⟩ : BufTy).Contents (Elt F) → (⟨S254, .f32⟩ : BufTy).Contents (Elt F) → (⟨S254, .f32⟩ : BufTy).Contents (Elt F)),
    StableHlo.unary main_v112 main_v119 (broadcastInDim S2x1024x40x1 ![0, 1, 2] bcast_S2x1024x40_S2x1024x40x1_0_1_2 : (⟨S2x1024x40, .f32⟩ : BufTy).Contents (Elt F) → (⟨S2x1024x40x1, .f32⟩ : BufTy).Contents (Elt F)),
    StableHlo.unary main_v118 main_v120 (broadcastInDim S1x1x1x254 ![3] bcast_S254_S1x1x1x254_3 : (⟨S254, .f32⟩ : BufTy).Contents (Elt F) → (⟨S1x1x1x254, .f32⟩ : BufTy).Contents (Elt F)),
    StableHlo.unary main_v119 main_v121 (broadcastInDim S2x1024x40x254 ![0, 1, 2, 3] bcast_S2x1024x40x1_S2x1024x40x254_0_1_2_3 : (⟨S2x1024x40x1, .f32⟩ : BufTy).Contents (Elt F) → (⟨S2x1024x40x254, .f32⟩ : BufTy).Contents (Elt F)),
    StableHlo.unary main_v120 main_v122 (broadcastInDim S2x1024x40x254 ![0, 1, 2, 3] bcast_S1x1x1x254_S2x1024x40x254_0_1_2_3 : (⟨S1x1x1x254, .f32⟩ : BufTy).Contents (Elt F) → (⟨S2x1024x40x254, .f32⟩ : BufTy).Contents (Elt F)),
    StableHlo.binary main_v121 main_v122 main_v123 (cmpf .olt : (⟨S2x1024x40x254, .f32⟩ : BufTy).Contents (Elt F) → (⟨S2x1024x40x254, .f32⟩ : BufTy).Contents (Elt F) → (⟨S2x1024x40x254, .i1⟩ : BufTy).Contents (Elt F)),
    StableHlo.nullary main_cst_9 (constant S_ .f32 0x7F800000#32),
    StableHlo.TRef.unary (.of main_cst_9 : StableHlo.TRef sig ⟨S_, .f32⟩) (.of main_call0_v0 : StableHlo.TRef sig ⟨S_, .f32⟩) id,
    StableHlo.TRef.unary (.of main_v118 : StableHlo.TRef sig ⟨S254, .f32⟩) (.of main_call0_v1 : StableHlo.TRef sig ⟨S2x1024x40x254, .f32⟩) (broadcastInDim S2x1024x40x254 ![3] bcast_S254_S2x1024x40x254_3),
    StableHlo.TRef.unary (.of main_call0_v0 : StableHlo.TRef sig ⟨S_, .f32⟩) (.of main_call0_v2 : StableHlo.TRef sig ⟨S2x1024x40x254, .f32⟩) (broadcastInDim S2x1024x40x254 ![] bcast_S_S2x1024x40x254),
    StableHlo.TRef.ternary (.of main_v123 : StableHlo.TRef sig ⟨S2x1024x40x254, .i1⟩) (.of main_call0_v1 : StableHlo.TRef sig ⟨S2x1024x40x254, .f32⟩) (.of main_call0_v2 : StableHlo.TRef sig ⟨S2x1024x40x254, .f32⟩) (.of main_v124 : StableHlo.TRef sig ⟨S2x1024x40x254, .f32⟩) select,
    StableHlo.nullary main_cst_10 (constant S_ .f32 0x00800000#32),
    StableHlo.unary main_cst_10 main_v125 (broadcastInDim S2x1024x40 ![] bcast_S_S2x1024x40 : (⟨S_, .f32⟩ : BufTy).Contents (Elt F) → (⟨S2x1024x40, .f32⟩ : BufTy).Contents (Elt F)),
    StableHlo.binary main_v112 main_v125 main_v126 (cmpf .olt : (⟨S2x1024x40, .f32⟩ : BufTy).Contents (Elt F) → (⟨S2x1024x40, .f32⟩ : BufTy).Contents (Elt F) → (⟨S2x1024x40, .i1⟩ : BufTy).Contents (Elt F)),
    StableHlo.nullary main_cst_11 (constant S_ .f32 0x7E800000#32),
    StableHlo.unary main_cst_11 main_v127 (broadcastInDim S2x1024x40 ![] bcast_S_S2x1024x40 : (⟨S_, .f32⟩ : BufTy).Contents (Elt F) → (⟨S2x1024x40, .f32⟩ : BufTy).Contents (Elt F)),
    StableHlo.binary main_v112 main_v127 main_v128 (cmpf .oge : (⟨S2x1024x40, .f32⟩ : BufTy).Contents (Elt F) → (⟨S2x1024x40, .f32⟩ : BufTy).Contents (Elt F) → (⟨S2x1024x40, .i1⟩ : BufTy).Contents (Elt F)),
    StableHlo.binary main_v126 main_v128 main_v129 (ori : (⟨S2x1024x40, .i1⟩ : BufTy).Contents (Elt F) → (⟨S2x1024x40, .i1⟩ : BufTy).Contents (Elt F) → (⟨S2x1024x40, .i1⟩ : BufTy).Contents (Elt F)),
    StableHlo.nullary main_cst_12 (constant S_ .f32 0x7F800000#32),
    StableHlo.binary main_v124 main_cst_12 main_v130 ((fun x v => Host.reduce FloatOps.minimumf x v reducesTo_S2x1024x40x254_S2x1024x40_d3 h_S_) : (⟨S2x1024x40x254, .f32⟩ : BufTy).Contents (Elt F) → (⟨S_, .f32⟩ : BufTy).Contents (Elt F) → (⟨S2x1024x40, .f32⟩ : BufTy).Contents (Elt F)),
    StableHlo.nullary main_cst_13 (constant S_ .f32 0x3F800000#32),
    StableHlo.TRef.unary (.of main_cst_13 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S2x1024x40, .f32⟩) (broadcastInDim S2x1024x40 ![] bcast_S_S2x1024x40),
    StableHlo.TRef.ternary (.of main_v129 : StableHlo.TRef sig ⟨S2x1024x40, .i1⟩) (.of main_call1_v1 : StableHlo.TRef sig ⟨S2x1024x40, .f32⟩) (.of main_v130 : StableHlo.TRef sig ⟨S2x1024x40, .f32⟩) (.of main_v131 : StableHlo.TRef sig ⟨S2x1024x40, .f32⟩) select,
    StableHlo.nullary main_cst_14 (constant S_ .f32 0x3F800000#32),
    StableHlo.unary main_cst_14 main_v132 (broadcastInDim S2x1024x40 ![] bcast_S_S2x1024x40 : (⟨S_, .f32⟩ : BufTy).Contents (Elt F) → (⟨S2x1024x40, .f32⟩ : BufTy).Contents (Elt F)),
    StableHlo.binary main_v132 main_v131 main_v133 (Host.divf : (⟨S2x1024x40, .f32⟩ : BufTy).Contents (Elt F) → (⟨S2x1024x40, .f32⟩ : BufTy).Contents (Elt F) → (⟨S2x1024x40, .f32⟩ : BufTy).Contents (Elt F)),
    StableHlo.unary main_v133 main_v134 (broadcastInDim S2x1024x40x1 ![0, 1, 2] bcast_S2x1024x40_S2x1024x40x1_0_1_2 : (⟨S2x1024x40, .f32⟩ : BufTy).Contents (Elt F) → (⟨S2x1024x40x1, .f32⟩ : BufTy).Contents (Elt F)),
    StableHlo.unary main_v134 main_v135 (broadcastInDim S2x1024x40x128 ![0, 1, 2, 3] bcast_S2x1024x40x1_S2x1024x40x128_0_1_2_3 : (⟨S2x1024x40x1, .f32⟩ : BufTy).Contents (Elt F) → (⟨S2x1024x40x128, .f32⟩ : BufTy).Contents (Elt F)),
    StableHlo.binary main_v108 main_v135 main_v136 (mulf : (⟨S2x1024x40x128, .f32⟩ : BufTy).Contents (Elt F) → (⟨S2x1024x40x128, .f32⟩ : BufTy).Contents (Elt F) → (⟨S2x1024x40x128, .f32⟩ : BufTy).Contents (Elt F)),
    StableHlo.nullary main_cst_15 (constant S_ .f32 0xC3E00000#32),
    StableHlo.nullary main_cst_16 (constant S_ .f32 0x43E00000#32),
    StableHlo.TRef.unary (.of main_cst_15 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S2x1024x40x128, .f32⟩) (broadcastInDim S2x1024x40x128 ![] bcast_S_S2x1024x40x128),
    StableHlo.TRef.binary (.of main_call2_v1 : StableHlo.TRef sig ⟨S2x1024x40x128, .f32⟩) (.of main_v136 : StableHlo.TRef sig ⟨S2x1024x40x128, .f32⟩) (.of main_call2_v2 : StableHlo.TRef sig ⟨S2x1024x40x128, .f32⟩) maximumf,
    StableHlo.TRef.unary (.of main_cst_16 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S2x1024x40x128, .f32⟩) (broadcastInDim S2x1024x40x128 ![] bcast_S_S2x1024x40x128),
    StableHlo.TRef.binary (.of main_call2_v4 : StableHlo.TRef sig ⟨S2x1024x40x128, .f32⟩) (.of main_call2_v2 : StableHlo.TRef sig ⟨S2x1024x40x128, .f32⟩) (.of main_v137 : StableHlo.TRef sig ⟨S2x1024x40x128, .f32⟩) minimumf,
    StableHlo.reshape main_v137 main_v138 (rfl : (.f32 : EltTy) = .f32) shapeCasts_S2x1024x40x128_S2x1024x5120 ]

/-- The operations after the blocks' largest magnitudes are divided by 448. -/
abbrev tail2 {F : FTy → Type} [FloatOps F] : List (HloOp τ sig (Elt F)) :=
  [ StableHlo.nullary main_v113 (iotaInDim S254 32 0),
    StableHlo.nullary main_c (constantI S_ 32 4294967170#32),
    StableHlo.unary main_c main_v114 (broadcastInDim S254 ![] bcast_S_S254 : (⟨S_, .i32⟩ : BufTy).Contents (Elt F) → (⟨S254, .i32⟩ : BufTy).Contents (Elt F)),
    StableHlo.binary main_v114 main_v113 main_v115 (addi : (⟨S254, .i32⟩ : BufTy).Contents (Elt F) → (⟨S254, .i32⟩ : BufTy).Contents (Elt F) → (⟨S254, .i32⟩ : BufTy).Contents (Elt F)),
    StableHlo.unary main_v115 main_v116 (sitofp .f32 : (⟨S254, .i32⟩ : BufTy).Contents (Elt F) → (⟨S254, .f32⟩ : BufTy).Contents (Elt F)),
    StableHlo.nullary main_cst_8 (constant S_ .f32 0x40000000#32),
    StableHlo.unary main_cst_8 main_v117 (broadcastInDim S254 ![] bcast_S_S254 : (⟨S_, .f32⟩ : BufTy).Contents (Elt F) → (⟨S254, .f32⟩ : BufTy).Contents (Elt F)),
    StableHlo.binary main_v117 main_v116 main_v118 (Host.powf : (⟨S254, .f32⟩ : BufTy).Contents (Elt F) → (⟨S254, .f32⟩ : BufTy).Contents (Elt F) → (⟨S254, .f32⟩ : BufTy).Contents (Elt F)),
    StableHlo.unary main_v112 main_v119 (broadcastInDim S2x1024x40x1 ![0, 1, 2] bcast_S2x1024x40_S2x1024x40x1_0_1_2 : (⟨S2x1024x40, .f32⟩ : BufTy).Contents (Elt F) → (⟨S2x1024x40x1, .f32⟩ : BufTy).Contents (Elt F)),
    StableHlo.unary main_v118 main_v120 (broadcastInDim S1x1x1x254 ![3] bcast_S254_S1x1x1x254_3 : (⟨S254, .f32⟩ : BufTy).Contents (Elt F) → (⟨S1x1x1x254, .f32⟩ : BufTy).Contents (Elt F)),
    StableHlo.unary main_v119 main_v121 (broadcastInDim S2x1024x40x254 ![0, 1, 2, 3] bcast_S2x1024x40x1_S2x1024x40x254_0_1_2_3 : (⟨S2x1024x40x1, .f32⟩ : BufTy).Contents (Elt F) → (⟨S2x1024x40x254, .f32⟩ : BufTy).Contents (Elt F)),
    StableHlo.unary main_v120 main_v122 (broadcastInDim S2x1024x40x254 ![0, 1, 2, 3] bcast_S1x1x1x254_S2x1024x40x254_0_1_2_3 : (⟨S1x1x1x254, .f32⟩ : BufTy).Contents (Elt F) → (⟨S2x1024x40x254, .f32⟩ : BufTy).Contents (Elt F)),
    StableHlo.binary main_v121 main_v122 main_v123 (cmpf .olt : (⟨S2x1024x40x254, .f32⟩ : BufTy).Contents (Elt F) → (⟨S2x1024x40x254, .f32⟩ : BufTy).Contents (Elt F) → (⟨S2x1024x40x254, .i1⟩ : BufTy).Contents (Elt F)),
    StableHlo.nullary main_cst_9 (constant S_ .f32 0x7F800000#32),
    StableHlo.TRef.unary (.of main_cst_9 : StableHlo.TRef sig ⟨S_, .f32⟩) (.of main_call0_v0 : StableHlo.TRef sig ⟨S_, .f32⟩) id,
    StableHlo.TRef.unary (.of main_v118 : StableHlo.TRef sig ⟨S254, .f32⟩) (.of main_call0_v1 : StableHlo.TRef sig ⟨S2x1024x40x254, .f32⟩) (broadcastInDim S2x1024x40x254 ![3] bcast_S254_S2x1024x40x254_3),
    StableHlo.TRef.unary (.of main_call0_v0 : StableHlo.TRef sig ⟨S_, .f32⟩) (.of main_call0_v2 : StableHlo.TRef sig ⟨S2x1024x40x254, .f32⟩) (broadcastInDim S2x1024x40x254 ![] bcast_S_S2x1024x40x254),
    StableHlo.TRef.ternary (.of main_v123 : StableHlo.TRef sig ⟨S2x1024x40x254, .i1⟩) (.of main_call0_v1 : StableHlo.TRef sig ⟨S2x1024x40x254, .f32⟩) (.of main_call0_v2 : StableHlo.TRef sig ⟨S2x1024x40x254, .f32⟩) (.of main_v124 : StableHlo.TRef sig ⟨S2x1024x40x254, .f32⟩) select,
    StableHlo.nullary main_cst_10 (constant S_ .f32 0x00800000#32),
    StableHlo.unary main_cst_10 main_v125 (broadcastInDim S2x1024x40 ![] bcast_S_S2x1024x40 : (⟨S_, .f32⟩ : BufTy).Contents (Elt F) → (⟨S2x1024x40, .f32⟩ : BufTy).Contents (Elt F)),
    StableHlo.binary main_v112 main_v125 main_v126 (cmpf .olt : (⟨S2x1024x40, .f32⟩ : BufTy).Contents (Elt F) → (⟨S2x1024x40, .f32⟩ : BufTy).Contents (Elt F) → (⟨S2x1024x40, .i1⟩ : BufTy).Contents (Elt F)),
    StableHlo.nullary main_cst_11 (constant S_ .f32 0x7E800000#32),
    StableHlo.unary main_cst_11 main_v127 (broadcastInDim S2x1024x40 ![] bcast_S_S2x1024x40 : (⟨S_, .f32⟩ : BufTy).Contents (Elt F) → (⟨S2x1024x40, .f32⟩ : BufTy).Contents (Elt F)),
    StableHlo.binary main_v112 main_v127 main_v128 (cmpf .oge : (⟨S2x1024x40, .f32⟩ : BufTy).Contents (Elt F) → (⟨S2x1024x40, .f32⟩ : BufTy).Contents (Elt F) → (⟨S2x1024x40, .i1⟩ : BufTy).Contents (Elt F)),
    StableHlo.binary main_v126 main_v128 main_v129 (ori : (⟨S2x1024x40, .i1⟩ : BufTy).Contents (Elt F) → (⟨S2x1024x40, .i1⟩ : BufTy).Contents (Elt F) → (⟨S2x1024x40, .i1⟩ : BufTy).Contents (Elt F)),
    StableHlo.nullary main_cst_12 (constant S_ .f32 0x7F800000#32),
    StableHlo.binary main_v124 main_cst_12 main_v130 ((fun x v => Host.reduce FloatOps.minimumf x v reducesTo_S2x1024x40x254_S2x1024x40_d3 h_S_) : (⟨S2x1024x40x254, .f32⟩ : BufTy).Contents (Elt F) → (⟨S_, .f32⟩ : BufTy).Contents (Elt F) → (⟨S2x1024x40, .f32⟩ : BufTy).Contents (Elt F)),
    StableHlo.nullary main_cst_13 (constant S_ .f32 0x3F800000#32),
    StableHlo.TRef.unary (.of main_cst_13 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S2x1024x40, .f32⟩) (broadcastInDim S2x1024x40 ![] bcast_S_S2x1024x40),
    StableHlo.TRef.ternary (.of main_v129 : StableHlo.TRef sig ⟨S2x1024x40, .i1⟩) (.of main_call1_v1 : StableHlo.TRef sig ⟨S2x1024x40, .f32⟩) (.of main_v130 : StableHlo.TRef sig ⟨S2x1024x40, .f32⟩) (.of main_v131 : StableHlo.TRef sig ⟨S2x1024x40, .f32⟩) select,
    StableHlo.nullary main_cst_14 (constant S_ .f32 0x3F800000#32),
    StableHlo.unary main_cst_14 main_v132 (broadcastInDim S2x1024x40 ![] bcast_S_S2x1024x40 : (⟨S_, .f32⟩ : BufTy).Contents (Elt F) → (⟨S2x1024x40, .f32⟩ : BufTy).Contents (Elt F)),
    StableHlo.binary main_v132 main_v131 main_v133 (Host.divf : (⟨S2x1024x40, .f32⟩ : BufTy).Contents (Elt F) → (⟨S2x1024x40, .f32⟩ : BufTy).Contents (Elt F) → (⟨S2x1024x40, .f32⟩ : BufTy).Contents (Elt F)),
    StableHlo.unary main_v133 main_v134 (broadcastInDim S2x1024x40x1 ![0, 1, 2] bcast_S2x1024x40_S2x1024x40x1_0_1_2 : (⟨S2x1024x40, .f32⟩ : BufTy).Contents (Elt F) → (⟨S2x1024x40x1, .f32⟩ : BufTy).Contents (Elt F)),
    StableHlo.unary main_v134 main_v135 (broadcastInDim S2x1024x40x128 ![0, 1, 2, 3] bcast_S2x1024x40x1_S2x1024x40x128_0_1_2_3 : (⟨S2x1024x40x1, .f32⟩ : BufTy).Contents (Elt F) → (⟨S2x1024x40x128, .f32⟩ : BufTy).Contents (Elt F)),
    StableHlo.binary main_v108 main_v135 main_v136 (mulf : (⟨S2x1024x40x128, .f32⟩ : BufTy).Contents (Elt F) → (⟨S2x1024x40x128, .f32⟩ : BufTy).Contents (Elt F) → (⟨S2x1024x40x128, .f32⟩ : BufTy).Contents (Elt F)),
    StableHlo.nullary main_cst_15 (constant S_ .f32 0xC3E00000#32),
    StableHlo.nullary main_cst_16 (constant S_ .f32 0x43E00000#32),
    StableHlo.TRef.unary (.of main_cst_15 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S2x1024x40x128, .f32⟩) (broadcastInDim S2x1024x40x128 ![] bcast_S_S2x1024x40x128),
    StableHlo.TRef.binary (.of main_call2_v1 : StableHlo.TRef sig ⟨S2x1024x40x128, .f32⟩) (.of main_v136 : StableHlo.TRef sig ⟨S2x1024x40x128, .f32⟩) (.of main_call2_v2 : StableHlo.TRef sig ⟨S2x1024x40x128, .f32⟩) maximumf,
    StableHlo.TRef.unary (.of main_cst_16 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S2x1024x40x128, .f32⟩) (broadcastInDim S2x1024x40x128 ![] bcast_S_S2x1024x40x128),
    StableHlo.TRef.binary (.of main_call2_v4 : StableHlo.TRef sig ⟨S2x1024x40x128, .f32⟩) (.of main_call2_v2 : StableHlo.TRef sig ⟨S2x1024x40x128, .f32⟩) (.of main_v137 : StableHlo.TRef sig ⟨S2x1024x40x128, .f32⟩) minimumf,
    StableHlo.reshape main_v137 main_v138 (rfl : (.f32 : EltTy) = .f32) shapeCasts_S2x1024x40x128_S2x1024x5120 ]

end Cert.ReferenceIdeal.Val
-- ==== Proof.RefCut.lean ====
/-
  What the reference computes before its cast, buffer by buffer, as functions of its arguments on extended reals.
-/
module

public import proofs.«01_k».proof.Proof.Gen.ReferenceIdeal.Frame
public import Idealize.ShloMosaic.Lib.StableHlo.ReadAt
public import proofs.«01_k».proof.Proof.RefTail

@[expose] public section

set_option maxHeartbeats 400000

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)
open Cert.Closed

variable (m : (ℓ : Loc nD τ sig) → Buf (Elt Ideal) ℓ)

/-- The contents before the magnitudes are taken. -/
def U1 (c : Dev nD) : Valuation τ sig (Elt Ideal) :=
  StableHlo.after ((List.flatten [hostOps0, hostOps0_1, hostOps0_2, hostOps0_3, hostOps0_4, hostOps0_5, hostOps0_6]).take 116) (fun b => m (c, b))

/-- The contents before the scales are sought. -/
def U2 (c : Dev nD) : Valuation τ sig (Elt Ideal) :=
  StableHlo.after ((List.flatten [hostOps0, hostOps0_1, hostOps0_2, hostOps0_3, hostOps0_4, hostOps0_5, hostOps0_6]).take 122) (fun b => m (c, b))
theorem after_cut (n : ℕ) (ops : List (HloOp τ sig (Elt Ideal))) (W : Valuation τ sig (Elt Ideal)) :
    StableHlo.after ops W = StableHlo.after (ops.drop n) (StableHlo.after (ops.take n) W) := by
  rw [← StableHlo.after_append, List.take_append_drop]

theorem drop1 : (List.flatten [hostOps0, hostOps0_1, hostOps0_2, hostOps0_3, hostOps0_4, hostOps0_5, hostOps0_6] : List (HloOp τ sig (Elt Ideal))).drop 116 = tail1 := rfl
theorem drop2 : (List.flatten [hostOps0, hostOps0_1, hostOps0_2, hostOps0_3, hostOps0_4, hostOps0_5, hostOps0_6] : List (HloOp τ sig (Elt Ideal))).drop 122 = tail2 := rfl

theorem V_cut1 (c : Dev nD) (r : Ref sig .tc) : V m c r = StableHlo.after tail1 (U1 m c) (Proc.devRef .tc r) := by
  have h := after_cut 116 (List.flatten [hostOps0, hostOps0_1, hostOps0_2, hostOps0_3, hostOps0_4, hostOps0_5, hostOps0_6]) (fun b => m (c, b))
  rw [drop1] at h
  exact congrFun h (Proc.devRef .tc r)

theorem V_cut2 (c : Dev nD) (r : Ref sig .tc) : V m c r = StableHlo.after tail2 (U2 m c) (Proc.devRef .tc r) := by
  have h := after_cut 122 (List.flatten [hostOps0, hostOps0_1, hostOps0_2, hostOps0_3, hostOps0_4, hostOps0_5, hostOps0_6]) (fun b => m (c, b))
  rw [drop2] at h
  exact congrFun h (Proc.devRef .tc r)

/-- The contents before the rows are normalised. -/
def U0 (c : Dev nD) : Valuation τ sig (Elt Ideal) :=
  StableHlo.after ((List.flatten [hostOps0, hostOps0_1, hostOps0_2, hostOps0_3, hostOps0_4, hostOps0_5, hostOps0_6]).take 104) (fun b => m (c, b))

theorem drop0 : (List.flatten [hostOps0, hostOps0_1, hostOps0_2, hostOps0_3, hostOps0_4, hostOps0_5, hostOps0_6] : List (HloOp τ sig (Elt Ideal))).drop 104 = tail0 := rfl

theorem V_cut0 (c : Dev nD) (r : Ref sig .tc) : V m c r = StableHlo.after tail0 (U0 m c) (Proc.devRef .tc r) := by
  have h := after_cut 104 (List.flatten [hostOps0, hostOps0_1, hostOps0_2, hostOps0_3, hostOps0_4, hostOps0_5, hostOps0_6]) (fun b => m (c, b))
  rw [drop0] at h
  exact congrFun h (Proc.devRef .tc r)

end Cert.ReferenceIdeal.Val
-- ==== Proof.RefTail2.lean ====
/-
  What the reference computes before its cast, buffer by buffer, as functions of its arguments on extended reals.
-/
module

public import proofs.«01_k».proof.Proof.Gen.ReferenceIdeal.Frame
public import Idealize.ShloMosaic.Lib.StableHlo.ReadAt
public import proofs.«01_k».proof.Proof.RefTail

@[expose] public section

set_option maxHeartbeats 400000

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)
open Cert.Closed

variable (m : (ℓ : Loc nD τ sig) → Buf (Elt Ideal) ℓ)

/-- The powers of two the reference tries, from 2⁻¹²⁶ to 2¹²⁷. -/
def pw (x : Fin 254) : EReal := Ideal.pow (Ideal.ofBits .f32 0x40000000#32) (FloatOps.sitofp (F := Ideal) .f32 (IntOp.addi (4294967170#32) (BitVec.ofNat 32 x.val)))

/-- The reference's scale of a block whose largest magnitude divided by 448 is `v`: the least power of two above `v`, or
    one when there is no normal such power. -/
def refScale (v : EReal) : EReal :=
  Scalar.select (IntOp.ori (BitVec.ofBool (decide (v < Ideal.ofBits .f32 0x00800000#32))) (BitVec.ofBool (decide (Ideal.ofBits .f32 0x7E800000#32 ≤ v))))
    (Ideal.ofBits .f32 0x3F800000#32)
    (Finset.univ.fold min (Ideal.ofBits .f32 0x7F800000#32) fun x : Fin 254 => if v < pw x then pw x else Ideal.ofBits .f32 0x7F800000#32)

theorem mul_at (A : FVec Ideal S2x1024x40 .f32) (b : Fin 2) (s : Fin 1024) (j : Fin 40) :
    at3 (mulf A (broadcastInDim S2x1024x40 ![] bcast_S_S2x1024x40 (constant (F := Ideal) S_ .f32 0x3B124925#32))) b s j = at3 A b s j * Ideal.ofBits .f32 0x3B124925#32 := by
  pointwise

theorem t112 (U : Valuation τ sig (Elt Ideal)) :
    (StableHlo.after tail1 U (Proc.devRef .tc main_v112)) = mulf (StableHlo.after tail1 U (Proc.devRef .tc main_v110) : FVec Ideal S2x1024x40 .f32) (broadcastInDim S2x1024x40 ![] bcast_S_S2x1024x40 (constant (F := Ideal) S_ .f32 0x3B124925#32)) := by
  after_reads_simp

theorem t110 (U : Valuation τ sig (Elt Ideal)) (b : Fin 2) (s : Fin 1024) (j : Fin 40) :
    at3 (StableHlo.after tail1 U (Proc.devRef .tc main_v110)) b s j = (Finset.univ.fold max (Ideal.ofBits .f32 0xFF800000#32) fun l : Fin 128 => max (at4 (U (Proc.devRef .tc main_v108)) b s j l) (-at4 (U (Proc.devRef .tc main_v108)) b s j l)) := by
  after_reads_at
  rfl

theorem t108 (U : Valuation τ sig (Elt Ideal)) : StableHlo.after tail1 U (Proc.devRef .tc main_v108) = U (Proc.devRef .tc main_v108) := by
  after_reads_simp

theorem t131 (U : Valuation τ sig (Elt Ideal)) (b : Fin 2) (s : Fin 1024) (j : Fin 40) :
    at3 (StableHlo.after tail2 U (Proc.devRef .tc main_v131)) b s j = refScale (at3 (U (Proc.devRef .tc main_v112)) b s j) := by
  after_reads_at
  rfl

theorem t138 (U : Valuation τ sig (Elt Ideal)) (b : Fin 2) (s : Fin 1024) (l : Fin 5120) :
    at3 (StableHlo.after tail2 U (Proc.devRef .tc main_v138)) b s l =
      min (Ideal.ofBits .f32 0x43E00000#32) (max (Ideal.ofBits .f32 0xC3E00000#32)
        (at4 (U (Proc.devRef .tc main_v108)) b s (⟨l.val / 128, by have := l.isLt; omega⟩ : Fin 40) (⟨l.val % 128, by omega⟩ : Fin 128) *
          Ideal.div 1 (refScale (at3 (U (Proc.devRef .tc main_v112)) b s (⟨l.val / 128, by have := l.isLt; omega⟩ : Fin 40))))) := by
  after_reads_at
  rfl

theorem t2_108 (U : Valuation τ sig (Elt Ideal)) : StableHlo.after tail2 U (Proc.devRef .tc main_v108) = U (Proc.devRef .tc main_v108) := by
  after_reads_simp

theorem t2_112 (U : Valuation τ sig (Elt Ideal)) : StableHlo.after tail2 U (Proc.devRef .tc main_v112) = U (Proc.devRef .tc main_v112) := by
  after_reads_simp

theorem t0_108 (U : Valuation τ sig (Elt Ideal)) (b : Fin 2) (s : Fin 1024) (j : Fin 40) (l : Fin 128) :
    at4 (StableHlo.after tail0 U (Proc.devRef .tc main_v108)) b s j l =
      (at4 (U (Proc.devRef .tc main_v7)) b s j l - at2 (U (Proc.devRef .tc main_v84)) b s) * at2 (U (Proc.devRef .tc main_v96)) b s * at2 (U (Proc.devRef .tc main_v0)) j l + at2 (U (Proc.devRef .tc main_v1)) j l := by
  after_reads_at

theorem t0_7 (U : Valuation τ sig (Elt Ideal)) : StableHlo.after tail0 U (Proc.devRef .tc main_v7) = U (Proc.devRef .tc main_v7) := by
  after_reads_simp

theorem t0_84 (U : Valuation τ sig (Elt Ideal)) : StableHlo.after tail0 U (Proc.devRef .tc main_v84) = U (Proc.devRef .tc main_v84) := by
  after_reads_simp

theorem t0_96 (U : Valuation τ sig (Elt Ideal)) : StableHlo.after tail0 U (Proc.devRef .tc main_v96) = U (Proc.devRef .tc main_v96) := by
  after_reads_simp

theorem t0_0 (U : Valuation τ sig (Elt Ideal)) : StableHlo.after tail0 U (Proc.devRef .tc main_v0) = U (Proc.devRef .tc main_v0) := by
  after_reads_simp

theorem t0_1 (U : Valuation τ sig (Elt Ideal)) : StableHlo.after tail0 U (Proc.devRef .tc main_v1) = U (Proc.devRef .tc main_v1) := by
  after_reads_simp

end Cert.ReferenceIdeal.Val
-- ==== Proof.Scale.lean ====
/-
  The kernel's search for the exponent bits finds the reference's least power of two, and the two inverse scales agree.
-/
module

public import proofs.«01_k».proof.Proof.RefTail2
public import Idealize.ShloMosaic.Lib.IdealHost

@[expose] public section

set_option maxRecDepth 16384

noncomputable section

namespace Cert.Scale

open Idealize.ShloMosaic
open Cert.KernelIdeal.Val (stepE expE satB maskB scB invB scaleI invI)
open Cert.ReferenceIdeal.Val (pw refScale)

/-- The pattern of exponent `k` and fraction zero. -/
def E (k : ℕ) : BitVec 32 := BitVec.ofNat 32 (k * 8388608)

/-- Its float. -/
def fE (k : ℕ) : EReal := Ideal.ofBits .f32 (E k)

theorem E_sign : ∀ k : Fin 256, ((E k.val).extractLsb' 31 1 == 1#1) = false := by decide +kernel
theorem E_exp : ∀ k : Fin 256, ((E k.val).extractLsb' 23 8).toNat = k.val := by decide +kernel
theorem E_frac : ∀ k : Fin 256, ((E k.val).extractLsb' 0 23).toNat = 0 := by decide +kernel

/-- A normal exponent names a power of two. -/
theorem fE_val (k : ℕ) (h1 : 1 ≤ k) (h2 : k ≤ 254) : fE k = (((2 : ℝ) ^ ((k : ℤ) - 127) : ℝ) : EReal) := by
  have a := E_sign ⟨k, by omega⟩
  have b := E_exp ⟨k, by omega⟩
  have d := E_frac ⟨k, by omega⟩
  dsimp only at a b d
  show Ideal.ieee 8 23 (E k) = _
  unfold Ideal.ieee
  dsimp only
  rw [show (8 + 23 : ℕ) = 31 from rfl, a, b, d, if_neg (by omega), if_neg (by omega)]
  congr 1
  have e : ((k : ℤ) - (2 ^ (8 - 1) - 1) - (23 : ℕ) : ℤ) = ((k : ℤ) - 127) - 23 := by norm_num
  rw [e, zpow_sub₀ (by norm_num : (2 : ℝ) ≠ 0)]
  norm_num
  exact mul_div_cancel₀ _ (by norm_num)

theorem fE_top : fE 255 = ⊤ := by
  show Ideal.ieee 8 23 (E 255) = _
  have a := E_sign ⟨255, by omega⟩
  have b := E_exp ⟨255, by omega⟩
  have d := E_frac ⟨255, by omega⟩
  dsimp only at a b d
  unfold Ideal.ieee
  dsimp only
  rw [show (8 + 23 : ℕ) = 31 from rfl, a, b, d]
  norm_num

/-- Larger exponents name larger floats. -/
theorem fE_mono {j k : ℕ} (h1 : 1 ≤ j) (hjk : j ≤ k) (hk : k ≤ 255) : fE j ≤ fE k := by
  rcases Nat.lt_or_ge k 255 with h | h
  · rw [fE_val j h1 (by omega), fE_val k (by omega) (by omega)]
    exact EReal.coe_le_coe_iff.2 (zpow_le_zpow_right₀ (by norm_num) (by omega))
  · obtain rfl : k = 255 := by omega
    rw [fE_top]; exact le_top

theorem E_or : ∀ (j : Fin 8) (k : Fin 256), k.val % (2 * 2 ^ j.val) = 0 → E k.val ||| E (2 ^ j.val) = E (k.val + 2 ^ j.val) := by decide +kernel

/-- What the search knows when the bits from `w` on are settled. -/
def Inv (v : EReal) (k w : ℕ) : Prop := k % w = 0 ∧ k + w ≤ 256 ∧ (k = 0 ∨ fE k ≤ v) ∧ (k + w = 256 ∨ v < fE (k + w))

theorem step (v : EReal) (j : Fin 8) (k : ℕ) (h : Inv v k (2 * 2 ^ j.val)) :
    ∃ k', stepE v (E k) (E (2 ^ j.val)) = E k' ∧ Inv v k' (2 ^ j.val) := by
  obtain ⟨h1, h2, h3, h4⟩ := h
  have hp : 0 < 2 ^ j.val := Nat.pow_pos (by norm_num)
  have hor := E_or j ⟨k, by omega⟩ h1
  dsimp only at hor
  have hm : k % 2 ^ j.val = 0 := by
    have : 2 ^ j.val ∣ k := (Dvd.intro_left 2 rfl).trans (Nat.dvd_of_mod_eq_zero h1)
    exact Nat.mod_eq_zero_of_dvd this
  unfold stepE
  rw [hor]
  by_cases hv : fE (k + 2 ^ j.val) ≤ v
  · refine ⟨k + 2 ^ j.val, ?_, ?_, by omega, Or.inr hv, ?_⟩
    · have : Ideal.cmp .oge v (Ideal.ofBits .f32 (E (k + 2 ^ j.val))) = 1#1 := by
        show BitVec.ofBool (decide (fE (k + 2 ^ j.val) ≤ v)) = 1#1
        rw [decide_eq_true hv]; rfl
      rw [this]; rfl
    · rw [Nat.add_mod_right]; exact hm
    · rw [show k + 2 ^ j.val + 2 ^ j.val = k + 2 * 2 ^ j.val by ring]; exact h4
  · refine ⟨k, ?_, hm, by omega, h3, Or.inr (not_le.1 hv)⟩
    have : Ideal.cmp .oge v (Ideal.ofBits .f32 (E (k + 2 ^ j.val))) = 0#1 := by
      show BitVec.ofBool (decide (fE (k + 2 ^ j.val) ≤ v)) = 0#1
      rw [decide_eq_false hv]; rfl
    rw [this]; rfl

/-- The search finds the exponent `k` with `fE k ≤ v < fE (k + 1)`. -/
theorem expE_spec (v : EReal) : ∃ k, expE v = E k ∧ Inv v k 1 := by
  have i0 : Inv v 0 (2 * 2 ^ (7 : Fin 8).val) := ⟨by norm_num, by norm_num, Or.inl rfl, Or.inl (by norm_num)⟩
  obtain ⟨k7, e7, i7⟩ := step v 7 0 i0
  obtain ⟨k6, e6, i6⟩ := step v 6 k7 i7
  obtain ⟨k5, e5, i5⟩ := step v 5 k6 i6
  obtain ⟨k4, e4, i4⟩ := step v 4 k5 i5
  obtain ⟨k3, e3, i3⟩ := step v 3 k4 i4
  obtain ⟨k2, e2, i2⟩ := step v 2 k3 i3
  obtain ⟨k1, e1, i1⟩ := step v 1 k2 i2
  obtain ⟨k0, e0, i0⟩ := step v 0 k1 i1
  refine ⟨k0, ?_, i0⟩
  rw [← e0, ← e1, ← e2, ← e3, ← e4, ← e5, ← e6, ← e7]
  rfl

theorem sc_one : ∀ k : Fin 256, (k.val = 0 ∨ 253 ≤ k.val) → scB (E k.val) = 0x3F800000#32 ∧ invB (E k.val) = 0x3F800000#32 := by decide +kernel
theorem sc_mid : ∀ k : Fin 256, 1 ≤ k.val → k.val ≤ 252 → scB (E k.val) = E (k.val + 1) ∧ invB (E k.val) = E (253 - k.val) := by decide +kernel

theorem pw_exp : ∀ x : Fin 254, (IntOp.addi (4294967170#32) (BitVec.ofNat 32 x.val)).toInt = (x.val : ℤ) - 126 := by decide +kernel

theorem two_val : Ideal.ofBits .f32 0x40000000#32 = ((2 : ℝ) : EReal) := by
  have h := fE_val 128 (by norm_num) (by norm_num)
  rw [show fE 128 = Ideal.ofBits .f32 0x40000000#32 from rfl] at h
  rw [h]; norm_num

/-- The reference's powers are the floats of the normal exponents. -/
theorem pw_val (x : Fin 254) : pw x = fE (x.val + 1) := by
  unfold pw
  rw [two_val, fE_val _ (by omega) (by have := x.isLt; omega)]
  show Ideal.pow ((2 : ℝ) : EReal) ((((IntOp.addi (4294967170#32) (BitVec.ofNat 32 x.val)).toInt : ℝ)) : EReal) = _
  rw [pw_exp x]
  show ((Real.rpow 2 _ : ℝ) : EReal) = _
  congr 1
  show (2 : ℝ) ^ ((((x.val : ℤ) - 126 : ℤ)) : ℝ) = _
  rw [Real.rpow_intCast]
  congr 1
  push_cast
  ring

theorem one_f32 : Ideal.ofBits .f32 0x3F800000#32 = (1 : EReal) := by
  have h := fE_val 127 (by norm_num) (by norm_num)
  rw [show fE 127 = Ideal.ofBits .f32 0x3F800000#32 from rfl] at h
  rw [h]; norm_num

theorem inf_val : Ideal.ofBits .f32 0x7F800000#32 = (⊤ : EReal) := fE_top

theorem fold_min_le {n : ℕ} (f : Fin n → EReal) (x : Fin n) : Finset.univ.fold min ⊤ f ≤ f x :=
  (Finset.fold_min_le (f := f) (s := Finset.univ) (b := (⊤ : EReal)) (f x)).2 (Or.inr ⟨x, Finset.mem_univ x, le_refl _⟩)

theorem le_fold_min' {n : ℕ} (f : Fin n → EReal) (a : EReal) (h : ∀ x, a ≤ f x) : a ≤ Finset.univ.fold min ⊤ f :=
  (Finset.le_fold_min (f := f) (s := Finset.univ) (b := (⊤ : EReal)) a).2 ⟨le_top, fun x _ => h x⟩

/-- The inverse of the float of a normal exponent. -/
theorem inv_val (k : ℕ) (h1 : 1 ≤ k) (h2 : k ≤ 252) : Ideal.div 1 (fE (k + 1)) = fE (253 - k) := by
  rw [fE_val (k + 1) (by omega) (by omega), fE_val (253 - k) (by omega) (by omega), Ideal.div_coe (by positivity), one_mul]
  congr 1
  rw [one_div, ← zpow_neg]
  congr 1
  push_cast [Nat.cast_sub (show k ≤ 253 by omega)]
  ring

/-- The reference's scale is the kernel's, and so is its inverse. -/
theorem scale_eq (v : EReal) : refScale v = Ideal.ofBits .f32 (scB (expE v)) ∧ Ideal.div 1 (refScale v) = Ideal.ofBits .f32 (invB (expE v)) := by
  obtain ⟨k, he, -, hk, h3, h4⟩ := expE_spec v
  have hone : refScale v = 1 → scB (expE v) = 0x3F800000#32 ∧ invB (expE v) = 0x3F800000#32 →
      refScale v = Ideal.ofBits .f32 (scB (expE v)) ∧ Ideal.div 1 (refScale v) = Ideal.ofBits .f32 (invB (expE v)) := by
    intro h1 ⟨ha, hb⟩
    rw [h1, ha, hb, one_f32]
    refine ⟨rfl, ?_⟩
    have := Ideal.div_coe (one_ne_zero (α := ℝ)) 1
    rw [one_mul] at this
    rw [show (1 : EReal) = ((1 : ℝ) : EReal) from rfl] at this ⊢
    rw [this]; norm_num
  have hlo : Ideal.ofBits .f32 0x00800000#32 = fE 1 := rfl
  have hhi : Ideal.ofBits .f32 0x7E800000#32 = fE 253 := rfl
  rcases Nat.eq_zero_or_pos k with h0 | h0
  · refine hone ?_ (by rw [he]; exact sc_one ⟨k, by omega⟩ (Or.inl h0))
    have hv : v < fE 1 := by
      rcases h4 with h4 | h4
      · omega
      · rwa [h0, zero_add] at h4
    unfold refScale
    rw [hlo, decide_eq_true hv]
    have : ∀ b : Bool, IntOp.ori (BitVec.ofBool true) (BitVec.ofBool b) = 1#1 := by decide
    rw [this]
    exact one_f32
  · have hkv : fE k ≤ v := by rcases h3 with h3 | h3; omega; exact h3
    rcases Nat.lt_or_ge k 253 with h | h
    · have hvk : v < fE (k + 1) := by rcases h4 with h4 | h4; omega; exact h4
      have hmin : refScale v = fE (k + 1) := by
        unfold refScale
        have g1 : ¬ v < fE 1 := not_lt.2 ((fE_mono (le_refl 1) h0 (by omega)).trans hkv)
        have g2 : ¬ fE 253 ≤ v := not_le.2 (hvk.trans_le (fE_mono (by omega) (by omega) (by omega)))
        rw [hlo, hhi, decide_eq_false g1, decide_eq_false g2, inf_val]
        show Finset.univ.fold min ⊤ (fun x : Fin 254 => if v < pw x then pw x else ⊤) = _
        refine le_antisymm ?_ (le_fold_min' _ _ fun x => ?_)
        · refine (fold_min_le _ (⟨k, by omega⟩ : Fin 254)).trans ?_
          rw [pw_val, if_pos hvk]
        · rw [pw_val]
          split
          · rename_i hx
            refine fE_mono (by omega) ?_ (by have := x.isLt; omega)
            by_contra hc
            exact absurd hx (not_lt.2 ((fE_mono (by omega) (by omega) (by omega)).trans hkv))
          · exact le_top
      obtain ⟨ha, hb⟩ := sc_mid ⟨k, by omega⟩ h0 (by show k ≤ 252; omega)
      rw [he, hmin, ha, hb]
      exact ⟨rfl, inv_val k h0 (by omega)⟩
    · refine hone ?_ (by rw [he]; exact sc_one ⟨k, by omega⟩ (Or.inr h))
      have hv : fE 253 ≤ v := (fE_mono (by omega) h (by omega)).trans hkv
      unfold refScale
      rw [hhi, decide_eq_true hv]
      have : ∀ b : Bool, IntOp.ori (BitVec.ofBool b) (BitVec.ofBool true) = 1#1 := by decide
      rw [this]
      exact one_f32

end Cert.Scale
-- ==== Proof.RefVal.lean ====
/-
  What the reference computes before its cast, in closed form.
-/
module

public import proofs.«01_k».proof.Proof.RefStat
public import proofs.«01_k».proof.Proof.RefCut
public import proofs.«01_k».proof.Proof.RefTail2
public import proofs.«01_k».proof.Proof.Scale

@[expose] public section

noncomputable section

namespace Cert.ReferenceIdeal.Val

open Cert.ReferenceIdeal Cert.ReferenceIdeal.Gen Idealize.ShloMosaic Idealize.ShloMosaic.TcCoe Idealize.SL.Sem
open Cert.Closed
open Cert.KernelIdeal.Val (lane blkOf scaleI invI sum_lanes)

variable (m : (ℓ : Loc nD τ sig) → Buf (Elt Ideal) ℓ)

/-- The residual sum, the merged statistics and the normalised rows of the arguments. -/
def rH (c : Dev nD) : Fin 2 → Fin 1024 → Fin 5120 → EReal := gh (aX m c) (aR m c)
def rM (c : Dev nD) : Fin 2 → Fin 1024 → EReal := gmean (aN m c) (aPM m c) (aPS m c) (rH m c)
def rD (c : Dev nD) : Fin 2 → Fin 1024 → EReal := grstd (aN m c) (aPM m c) (aPS m c) (rH m c)
def rY (c : Dev nD) : Fin 2 → Fin 1024 → Fin 5120 → EReal := gy (rH m c) (rM m c) (rD m c) (aG m c) (aB m c)

/-- A sum over blocks and lanes is a sum over places. -/
theorem sum_blocks (f : Fin 5120 → EReal) : ∑ j : Fin 40, ∑ l : Fin 128, f (lane j l) = ∑ p : Fin 5120, f p := by
  rw [Finset.sum_comm]; exact sum_lanes f

theorem mu_eq (c : Dev nD) (b : Fin 2) (s : Fin 1024) : at2 (V m c main_v10) b s = gmu (rH m c) b s := by
  rw [v10_eq m c b s]
  unfold gmu
  rw [← sum_blocks]
  refine congrArg₂ Ideal.div (Finset.sum_congr rfl fun j _ => Finset.sum_congr rfl fun l _ => v7_eq m c b s j l) rfl

theorem m2_eq (c : Dev nD) (b : Fin 2) (s : Fin 1024) : at2 (V m c main_v15) b s = gm2 (rH m c) b s := by
  rw [v15_eq m c b s]
  unfold gm2
  rw [← sum_blocks]
  refine Finset.sum_congr rfl fun j _ => Finset.sum_congr rfl fun l _ => ?_
  rw [v7_eq m c b s j l, mu_eq m c b s]
  rfl

/-- The merged mean. -/
theorem mean_eq (c : Dev nD) (b : Fin 2) (s : Fin 1024) : at2 (V m c main_v84) b s = rM m c b s := by
  rw [v84_eq m c b s, mu_eq m c b s]
  rfl

/-- The merged reciprocal deviation. -/
theorem rstd_eq (c : Dev nD) (b : Fin 2) (s : Fin 1024) : at2 (V m c main_v96) b s = rD m c b s := by
  rw [v96_eq m c b s, mu_eq m c b s, m2_eq m c b s]
  rfl

/-- The normalised rows. -/
theorem y_eq (c : Dev nD) (b : Fin 2) (s : Fin 1024) (j : Fin 40) (l : Fin 128) :
    at4 (V m c main_v108) b s j l = rY m c b s (lane j l) := by
  have e : at4 (V m c main_v108) b s j l =
      (at4 (V m c main_v7) b s j l - at2 (V m c main_v84) b s) * at2 (V m c main_v96) b s * at2 (V m c main_v0) j l + at2 (V m c main_v1) j l := by
    have h := t0_108 (U0 m c) b s j l
    rw [← t0_7 (U0 m c), ← t0_84 (U0 m c), ← t0_96 (U0 m c), ← t0_0 (U0 m c), ← t0_1 (U0 m c)] at h
    rw [V_cut0 m c main_v108, V_cut0 m c main_v7, V_cut0 m c main_v84, V_cut0 m c main_v96, V_cut0 m c main_v0, V_cut0 m c main_v1]
    exact h
  rw [e, v7_eq m c b s j l, mean_eq m c b s, rstd_eq m c b s, v0_eq m c j l, v1_eq m c j l]
  rfl

/-- The largest magnitudes divided by 448. -/
theorem v_eq (c : Dev nD) (b : Fin 2) (s : Fin 1024) (j : Fin 40) :
    at3 (V m c main_v112) b s j = gam (rY m c) b s j * Ideal.ofBits .f32 0x3B124925#32 := by
  have h1 := (congrArg (fun f : FVec Ideal S2x1024x40 .f32 => at3 f b s j) (t112 (U1 m c))).trans (mul_at _ b s j)
  have h2 := t110 (U1 m c) b s j
  have h3 : (fun l : Fin 128 => max (at4 (U1 m c (Proc.devRef .tc main_v108)) b s j l) (-at4 (U1 m c (Proc.devRef .tc main_v108)) b s j l))
      = fun l : Fin 128 => max (rY m c b s (lane j l)) (-(rY m c b s (lane j l))) := by
    funext l
    have h := y_eq m c b s j l
    rw [V_cut1 m c main_v108, t108 (U1 m c)] at h
    rw [h]
  rw [h3] at h2
  rw [V_cut1 m c main_v112]
  refine h1.trans ?_
  rw [h2]
  have hb : Ideal.ofBits .f32 0xFF800000#32 = (⊥ : EReal) := by simp [Ideal.ofBits, Ideal.ieee]
  rw [hb]
  rfl

/-- The scales. -/
theorem scale_eq (c : Dev nD) (b : Fin 2) (s : Fin 1024) (j : Fin 40) :
    at3 (V m c main_v131) b s j = gscale (rY m c) b s j := by
  have h := v_eq m c b s j
  rw [V_cut2 m c main_v112, t2_112 (U2 m c)] at h
  rw [V_cut2 m c main_v131, t131 (U2 m c) b s j, h]
  exact (Cert.Scale.scale_eq _).1

/-- The codes before the cast. -/
theorem code_eq (c : Dev nD) (b : Fin 2) (s : Fin 1024) (l : Fin 5120) :
    at3 (V m c main_v138) b s l = gcode (rY m c) b s l := by
  have h := v_eq m c b s (blkOf l)
  have hy := y_eq m c b s (blkOf l) (⟨l.val % 128, by omega⟩ : Fin 128)
  rw [V_cut2 m c main_v112, t2_112 (U2 m c)] at h
  rw [V_cut2 m c main_v108, t2_108 (U2 m c)] at hy
  rw [show lane (blkOf l) (⟨l.val % 128, by omega⟩ : Fin 128) = l from Fin.ext (by show 128 * (l.val / 128) + l.val % 128 = l.val; omega)] at hy
  have h' := t138 (U2 m c) b s l
  rw [show (⟨l.val / 128, by have := l.isLt; omega⟩ : Fin 40) = blkOf l from rfl, h, hy, (Cert.Scale.scale_eq _).2] at h'
  rw [V_cut2 m c main_v138]
  exact h'

end Cert.ReferenceIdeal.Val
-- ==== Proof.RefRun.lean ====
/-
  The reference's run: its five results in closed form.
-/
module

public import proofs.«01_k».proof.Proof.RefVal
public import proofs.«01_k».proof.Proof.Gen.ReferenceIdeal.Value

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)
open Cert.Closed

variable (m : (ℓ : Loc nD τ sig) → Buf (Elt Ideal) ℓ) (ρ : Dev nD → PrngReg)

/-- An index of rank three is its coordinates. -/
theorem eta3 {a b d : ℕ} (i : (⟨3, ![a, b, d]⟩ : Shape).Idx) :
    ix3 (⟨(i 0).val, (i 0).isLt⟩ : Fin a) (⟨(i 1).val, (i 1).isLt⟩ : Fin b) (⟨(i 2).val, (i 2).isLt⟩ : Fin d) = i :=
  funext fun q => by match q with | ⟨0, _⟩ => rfl | ⟨1, _⟩ => rfl | ⟨2, _⟩ => rfl

/-- An index of rank two is its coordinates. -/
theorem eta2 {a b : ℕ} (i : (⟨2, ![a, b]⟩ : Shape).Idx) :
    ix2 (⟨(i 0).val, (i 0).isLt⟩ : Fin a) (⟨(i 1).val, (i 1).isLt⟩ : Fin b) = i :=
  funext fun q => by match q with | ⟨0, _⟩ => rfl | ⟨1, _⟩ => rfl

/-- The codes, as contents of the array the cast reads. -/
abbrev codes (c : Dev nD) : S2x1024x5120.Idx → EReal := fun i => gcode (rY m c) (i 0) (i 1) (i 2)

theorem v138_fun (c : Dev nD) : V m c main_v138 = codes m c := by
  funext i
  have e := code_eq m c (⟨(i 0).val, (i 0).isLt⟩ : Fin 2) (⟨(i 1).val, (i 1).isLt⟩ : Fin 1024) (⟨(i 2).val, (i 2).isLt⟩ : Fin 5120)
  unfold at3 at e
  rwa [eta3 i] at e

/-- The one block of the cast's input is its array. -/
theorem blk0_eq (c : Dev nD) (t : Fin cfg0.N) : iblk m c 0 t = codes m c := by
  refine Eq.trans ?_ (v138_fun m c)
  funext j
  unfold iblk
  rw [View.read_apply]
  show V m c main_v138 _ = V m c main_v138 _
  congr 1
  funext a
  apply Fin.ext
  match a with
  | ⟨0, _⟩ => show 0 * 2 + 1 * (j 0).val = (j 0).val; omega
  | ⟨1, _⟩ => show 0 * 1024 + 1 * (j 1).val = (j 1).val; omega
  | ⟨2, _⟩ => show 0 * 5120 + 1 * (j 2).val = (j 2).val; omega

theorem ix_self (y : S2x1024x5120.Idx) : r0_0.idx (Cert.ReferenceIdeal.Value.ix1_0 y) = y := by
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem out_at (f : Vec Ideal S2x1024x5120 .f32) (y : S2x1024x5120.Idx) :
    out0_1 (F := Ideal) f y = Cert.ReferenceIdeal.Value.E1 (View.ld f r0_0) y := by
  unfold out0_1
  exact Cert.ReferenceIdeal.Value.canon1_eq (F := Ideal) (View.ld f r0_0) y

theorem e1_at (f : Vec Ideal S2x1024x5120 .f32) (y : S2x1024x5120.Idx) :
    Cert.ReferenceIdeal.Value.E1 (View.ld f r0_0) y = f y := by
  show f (r0_0.idx (Cert.ReferenceIdeal.Value.ix1_0 y)) = f y
  rw [ix_self]

/-- The cast of a whole array keeps every value. -/
theorem out_codes (f : Vec Ideal S2x1024x5120 .f32) : out0_1 (F := Ideal) f = f :=
  funext fun y => (out_at f y).trans (e1_at f y)

/-- The cast writes the codes. -/
theorem flushed (c : Dev nD) (t : Fin cfg0.N) :
    (dats m 0 c).flushed 1 t = ((cfg0.win 1).blk t).view.read (Elt Ideal) (codes m c) := by
  rw [Cert.ReferenceIdeal.Value.flushed1 m c t, blk0_eq m c t, out_codes]
  funext j
  rw [View.read_apply]
  show codes m c _ = codes m c _
  congr 1
  funext a
  apply Fin.ext
  match a with
  | ⟨0, _⟩ => show (j 0).val = 0 * 2 + 1 * (j 0).val; omega
  | ⟨1, _⟩ => show (j 1).val = 0 * 1024 + 1 * (j 1).val; omega
  | ⟨2, _⟩ => show (j 2).val = 0 * 5120 + 1 * (j 2).val; omega

/-- So the array after the cast is the codes. -/
theorem final (c : Dev nD) : (dats m 0 c).arrAt 1 cfg0.N = codes m c :=
  (dats m 0 c).arrAt_eq_of_cover 1 (codes m c) (fun t _ => flushed m c t) fun i =>
    ⟨Gen.t0_0, flush0_1 Gen.t0_0, by
      show i ∈ ((View.whole main_v139).slice (win0_1.rect Gen.t0_0)).set
      rw [View.set_slice_whole, Rect.mem_set_unit]
      intro a
      have h0 : (i 0 : Nat) < 2 := (i 0).isLt
      have h1 : (i 1 : Nat) < 1024 := (i 1).isLt
      have h2 : (i 2 : Nat) < 5120 := (i 2).isLt
      match a with
      | ⟨0, _⟩ => show 0 * 2 ≤ (i 0 : Nat) ∧ (i 0 : Nat) < 0 * 2 + 2; omega
      | ⟨1, _⟩ => show 0 * 1024 ≤ (i 1 : Nat) ∧ (i 1 : Nat) < 0 * 1024 + 1024; omega
      | ⟨2, _⟩ => show 0 * 5120 ≤ (i 2 : Nat) ∧ (i 2 : Nat) < 0 * 5120 + 5120; omega⟩

/-- The reference's run: its five results in closed form, its arguments unchanged. -/
theorem run_closed : θ_run defs (onTc (τ := τ) (main (F := Ideal))) ⟨m, fun _ => 0, ρ⟩ fun r => ∀ c : Dev nD,
      r.2.mem ((c : Thread nD τ).loc main_v139) = (fun i : S2x1024x5120.Idx => gcode (rY m c) (i 0) (i 1) (i 2))
      ∧ r.2.mem ((c : Thread nD τ).loc main_v131) = (fun i : S2x1024x40.Idx => gscale (rY m c) (i 0) (i 1) (i 2))
      ∧ r.2.mem ((c : Thread nD τ).loc main_v84) = (fun i : S2x1024.Idx => rM m c (i 0) (i 1))
      ∧ r.2.mem ((c : Thread nD τ).loc main_v96) = (fun i : S2x1024.Idx => rD m c (i 0) (i 1))
      ∧ r.2.mem ((c : Thread nD τ).loc main_v5) = (fun i : S2x1024x5120.Idx => rH m c (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    refine ⟨?_, ?_, ?_, ?_, ?_, Cert.ReferenceIdeal.Value.kept_main_arg0 m r h c, Cert.ReferenceIdeal.Value.kept_main_arg1 m r h c,
      Cert.ReferenceIdeal.Value.kept_main_arg2 m r h c, Cert.ReferenceIdeal.Value.kept_main_arg3 m r h c,
      Cert.ReferenceIdeal.Value.kept_main_arg4 m r h c, Cert.ReferenceIdeal.Value.kept_main_arg5 m r h c,
      Cert.ReferenceIdeal.Value.kept_main_arg6 m r h c⟩
    · exact ((h c).1 1).trans (final m c)
    · refine ((h c).2 main_v131 (Pipeline.mem_restRefs_of main_v131 (by decide) (by decide))).trans (funext fun i => ?_)
      have e := scale_eq m c (⟨(i 0).val, (i 0).isLt⟩ : Fin 2) (⟨(i 1).val, (i 1).isLt⟩ : Fin 1024) (⟨(i 2).val, (i 2).isLt⟩ : Fin 40)
      unfold at3 at e
      rwa [eta3 i] at e
    · refine ((h c).2 main_v84 (Pipeline.mem_restRefs_of main_v84 (by decide) (by decide))).trans (funext fun i => ?_)
      have e := mean_eq m c (⟨(i 0).val, (i 0).isLt⟩ : Fin 2) (⟨(i 1).val, (i 1).isLt⟩ : Fin 1024)
      unfold at2 at e
      rwa [eta2 i] at e
    · refine ((h c).2 main_v96 (Pipeline.mem_restRefs_of main_v96 (by decide) (by decide))).trans (funext fun i => ?_)
      have e := rstd_eq m c (⟨(i 0).val, (i 0).isLt⟩ : Fin 2) (⟨(i 1).val, (i 1).isLt⟩ : Fin 1024)
      unfold at2 at e
      rwa [eta2 i] at e
    · refine ((h c).2 main_v5 (Pipeline.mem_restRefs_of main_v5 (by decide) (by decide))).trans (funext fun i => ?_)
      have e := v5_eq m c (⟨(i 0).val, (i 0).isLt⟩ : Fin 2) (⟨(i 1).val, (i 1).isLt⟩ : Fin 1024) (⟨(i 2).val, (i 2).isLt⟩ : Fin 5120)
      unfold at3 at e
      rwa [eta3 i] at e)
    (run_main m ρ)

end Cert.ReferenceIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.KernelIdealFrame
public import proofs.«01_k».proof.Proof.KVal4
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- From memories agreeing on the arguments, the two programs' closed forms are functions of equal arguments, so their
    five results are equal. -/
theorem algebraic : Cert.algebraic_KernelIdeal_ReferenceIdeal (hKernelIdeal := Cert.KernelIdeal.Gen.facts) (hReferenceIdeal := Cert.ReferenceIdeal.Gen.facts) := by
  intro m g m' g' _ ha
  have eH : ∀ c, Cert.ReferenceIdeal.Val.rH m' c = Cert.KernelIdeal.Val.kH m c := fun c => by
    unfold Cert.ReferenceIdeal.Val.rH Cert.KernelIdeal.Val.kH
    exact congrArg₂ (fun x r => Cert.Closed.gh (Cert.Closed.at3 x) (Cert.Closed.at3 r)) (ha c).1 (ha c).2.1
  have eN : ∀ c, Cert.ReferenceIdeal.Val.aN m' c = Cert.KernelIdeal.Val.aN m c := fun c =>
    congrArg (fun x => Cert.Closed.at1 x) (ha c).2.2.1
  have ePM : ∀ c, Cert.ReferenceIdeal.Val.aPM m' c = Cert.KernelIdeal.Val.aPM m c := fun c =>
    congrArg (fun x => Cert.Closed.at3 x) (ha c).2.2.2.1
  have ePS : ∀ c, Cert.ReferenceIdeal.Val.aPS m' c = Cert.KernelIdeal.Val.aPS m c := fun c =>
    congrArg (fun x => Cert.Closed.at3 x) (ha c).2.2.2.2.1
  have eG : ∀ c, Cert.ReferenceIdeal.Val.aG m' c = Cert.KernelIdeal.Val.aG m c := fun c =>
    congrArg (fun x => Cert.Closed.at1 x) (ha c).2.2.2.2.2.1
  have eB : ∀ c, Cert.ReferenceIdeal.Val.aB m' c = Cert.KernelIdeal.Val.aB m c := fun c =>
    congrArg (fun x => Cert.Closed.at1 x) (ha c).2.2.2.2.2.2
  have eM : ∀ c, Cert.ReferenceIdeal.Val.rM m' c = Cert.KernelIdeal.Val.kM m c := fun c => by
    unfold Cert.ReferenceIdeal.Val.rM Cert.KernelIdeal.Val.kM
    rw [eH c, eN c, ePM c, ePS c]
  have eD : ∀ c, Cert.ReferenceIdeal.Val.rD m' c = Cert.KernelIdeal.Val.kD m c := fun c => by
    unfold Cert.ReferenceIdeal.Val.rD Cert.KernelIdeal.Val.kD
    rw [eH c, eN c, ePM c, ePS c]
  have eY : ∀ c, Cert.ReferenceIdeal.Val.rY m' c = Cert.KernelIdeal.Val.kY m c := fun c => by
    unfold Cert.ReferenceIdeal.Val.rY Cert.KernelIdeal.Val.kY
    rw [eH c, eM c, eD c, eG c, eB c]
  refine ⟨_, _, _, _, _, Cert.KernelIdeal.Val.run_closed m g,
    (θ_run _ _ _).mono (fun r h c => ?_) (Cert.ReferenceIdeal.Val.run_closed m' g')⟩
  have h' := h c
  rw [eH c, eM c, eD c, eY c] at h'
  exact h'

/-- The three frames, the idealization (no rewrite) and the equality of the five results. -/
theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  trivial,
  algebraic⟩

end Cert.Proof

end
